-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x2048x512 : Shape := ⟨3, ![8, 2048, 512]⟩
abbrev S8x2048 : Shape := ⟨2, ![8, 2048]⟩
abbrev S8x16x1 : Shape := ⟨3, ![8, 16, 1]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048x512 .f32) (main_arg1 : IVec S8x2048 32) (main_arg2 : FVec F S8x16x1 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg1 main_v0
  let main_c_0 : IVec S_ 32 := constantI S_ 32 16#32
  let main_v2 : IVec S8x2048 32 := broadcastInDim S8x2048 ![] bcast_S_S8x2048 main_c_0
  let main_v3 : IVec S8x2048 1 := cmpi .slt main_arg1 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== Kernel.lean ====
abbrev S8x2048x512 : Shape := ⟨3, ![8, 2048, 512]⟩
abbrev S8x2048 : Shape := ⟨2, ![8, 2048]⟩
abbrev S8x16x1 : Shape := ⟨3, ![8, 16, 1]⟩
abbrev S128 : Shape := ⟨1, ![128]⟩
abbrev S16384 : Shape := ⟨1, ![16384]⟩
abbrev S512 : Shape := ⟨1, ![512]⟩
abbrev S_ : Shape := ⟨0, ![]⟩
abbrev S1x512 : Shape := ⟨2, ![1, 512]⟩
abbrev S16 : Shape := ⟨1, ![16]⟩
abbrev S16384x512 : Shape := ⟨2, ![16384, 512]⟩
abbrev S128x128 : Shape := ⟨2, ![128, 128]⟩
abbrev S2048x512 : Shape := ⟨2, ![2048, 512]⟩
abbrev S16x128 : Shape := ⟨2, ![16, 128]⟩
abbrev S128x16 : Shape := ⟨2, ![128, 16]⟩
abbrev S128x512 : Shape := ⟨2, ![128, 512]⟩
abbrev S128x1 : Shape := ⟨2, ![128, 1]⟩

abbrev nBuf : Table → Nat
  | .hbm => 9
  | .local .tc .vmem => 6
  | .local .scVector .vmem => 3
  | _ => 0

abbrev bufTy : (tb : Table) → Fin (nBuf tb) → BufTy
  | .hbm, ⟨0, _⟩ => ⟨S8x2048x512, .f32⟩
  | .hbm, ⟨1, _⟩ => ⟨S8x2048, .i32⟩
  | .hbm, ⟨2, _⟩ => ⟨S8x16x1, .f32⟩
  | .hbm, ⟨3, _⟩ => ⟨S128, .f32⟩
  | .hbm, ⟨4, _⟩ => ⟨S16384, .f32⟩
  | .hbm, ⟨5, _⟩ => ⟨S16384x512, .f32⟩
  | .hbm, ⟨6, _⟩ => ⟨S128x128, .f32⟩
  | .hbm, ⟨7, _⟩ => ⟨S16384x512, .f32⟩
  | .hbm, ⟨8, _⟩ => ⟨S8x2048x512, .f32⟩
  | .local .tc .vmem, ⟨0, _⟩ => ⟨S2048x512, .f32⟩
  | .local .tc .vmem, ⟨1, _⟩ => ⟨S2048x512, .f32⟩
  | .local .tc .vmem, ⟨2, _⟩ => ⟨S16x128, .f32⟩
  | .local .tc .vmem, ⟨3, _⟩ => ⟨S16x128, .f32⟩
  | .local .tc .vmem, ⟨4, _⟩ => ⟨S2048x512, .f32⟩
  | .local .tc .vmem, ⟨5, _⟩ => ⟨S2048x512, .f32⟩
  | .local .scVector .vmem, ⟨0, _⟩ => ⟨S512, .i32⟩
  | .local .scVector .vmem, ⟨1, _⟩ => ⟨S128, .f32⟩
  | .local .scVector .vmem, ⟨2, _⟩ => ⟨S512, .f32⟩
  | _, _ => ⟨S8x2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
@[reducible] def k0_t1_loop : Scf.Loop 32 :=
  let c0_i32_11 : BitVec 32 := 0#32
  let c32_i32 : BitVec 32 := 32#32
  let v31 : BitVec 32 := Scalar.addi c0_i32_11 c32_i32
  let c1_i32_12 : BitVec 32 := 1#32
  ⟨c0_i32_11, v31, c1_i32_12⟩
def k0_off2 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32_14 : BitVec 32 := 16#32
  let v34 : BitVec 32 := Scalar.muli arg8 c16_i32_14
  let v35 : Index := Scalar.indexCast v34
  ![v35.toNat]

def k0_chk1 (v38 : IVec S16 32) : Prop :=
  (∀ a x, ((![v38] : Fin 1 → IVec S16 32) a x).toNat < S128.size a)
theorem k0_idx1_inb : ∀ (v38 : IVec S16 32) (k0_hw1 : k0_chk1 v38), ∀ a x, ((![v38] : Fin 1 → IVec S16 32) a x).toNat < S128.size a := fun v38 k0_hw1 => k0_hw1
def k0_off3 (k0_t1 : Fin k0_t1_loop.trips) : Fin 1 → Nat :=
  let c0_i32_11 : BitVec 32 := 0#32
  let c1_i32_12 : BitVec 32 := 1#32
  let arg8 : BitVec 32 := Scf.iv c0_i32_11 c1_i32_12 k0_t1
  let c16_i32_14 : BitVec 32 := 16#32
  let v34 : BitVec 32 := Scalar.muli arg8 c16_i32_14
  let v40 : Index := Scalar.indexCast v34
  ![v40.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2048_i32 : BitVec 32 := 2048#32
  let v32 : BitVec 32 := Scalar.muli v18 c2048_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v33 : BitVec 32 := Scalar.addi v32 v29
  ![v33.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_keep" => some ((8388608 / 7549747 : ℝ) : EReal)
  | _ => none
-- ==== ReferenceIdeal.lean ====
abbrev S8x2048x512 : Shape := ⟨3, ![8, 2048, 512]⟩
abbrev S8x2048 : Shape := ⟨2, ![8, 2048]⟩
abbrev S8x16x1 : Shape := ⟨3, ![8, 16, 1]⟩
abbrev S8x2048x1 : Shape := ⟨3, ![8, 2048, 1]⟩
abbrev S_ : Shape := ⟨0, ![]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x16x1, .f32⟩
  | .hbm, ⟨3, _⟩ => ⟨S8x2048x1, .i32⟩
  | .hbm, ⟨4, _⟩ => ⟨S_, .i32⟩
  | .hbm, ⟨5, _⟩ => ⟨S8x2048x1, .i32⟩
  | .hbm, ⟨6, _⟩ => ⟨S8x2048x1, .i1⟩
  | .hbm, ⟨7, _⟩ => ⟨S_, .i32⟩
  | .hbm, ⟨8, _⟩ => ⟨S8x2048x1, .i32⟩
  | .hbm, ⟨9, _⟩ => ⟨S8x2048x1, .i32⟩
  | .hbm, ⟨10, _⟩ => ⟨S8x2048x1, .i32⟩
  | .hbm, ⟨11, _⟩ => ⟨S1, .i32⟩
  | .hbm, ⟨12, _⟩ => ⟨S_, .i32⟩
  | .hbm, ⟨13, _⟩ => ⟨S8x2048x1, .i32⟩
  | .hbm, ⟨14, _⟩ => ⟨S8x2048x1, .i1⟩
  | .hbm, ⟨15, _⟩ => ⟨S1x1x1, .i32⟩
  | .hbm, ⟨16, _⟩ => ⟨S8x2048x1, .i32⟩
  | .hbm, ⟨17, _⟩ => ⟨S8x2048x1, .i1⟩
  | .hbm, ⟨18, _⟩ => ⟨S8x2048x1, .i1⟩
  | .hbm, ⟨19, _⟩ => ⟨S_, .i1⟩
  | .hbm, ⟨20, _⟩ => ⟨S8x2048, .i1⟩
  | .hbm, ⟨21, _⟩ => ⟨S8x2048x1, .f32⟩
  | .hbm, ⟨22, _⟩ => ⟨S8x2048x1, .i1⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Setup.lean ====
/-
  What the proof of this kernel shares between its parts: the program as the launch theorem reads it, the ghost state,
  the arrays by name, the table look-up that the thirty-two vector-subcore tasks perform together, and what each task is
  handed and hands back. Everything is stated over any float values `F`.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.ShareLeaves (leaf pointsTo_leaves)
open Idealize.ShloMosaic.ValueIdx (ix1 ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its semaphores are distinct and of the right kinds, and no shared array is a task's own. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes, the pipeline's staging cells, the copies' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
/-- The staging cells' part of the ghost state. -/
def EP : Emb UK (MT nD τ sig (HIx 1) (Elt F) ℕ UU ℕ) :=
  ((Emb.inl : Emb UK (UK × Counters)).trans (Emb.inr : Emb (UK × Counters) UU)).trans
    (uEmb (nD := nD) (τ := τ) (sig := sig) (Ix := HIx 1) (Val := Elt F) (Name := ℕ) (U := UU) (Lvl := ℕ)).toEmb

/-- That part lies in the user's ghost state. -/
instance EP_landsIn : (EP : Emb UK 𝕄).LandsIn (upEmb : UEmb _ 𝕄) := by unfold EP; infer_instance

/-! ## The arrays of a device -/

abbrev xLoc (d : Dev nD) : Loc nD τ sig := (SparseCore.T d).loc main_arg0
abbrev iLoc (d : Dev nD) : Loc nD τ sig := (SparseCore.T d).loc main_arg1
abbrev gLoc (d : Dev nD) : Loc nD τ sig := (SparseCore.T d).loc main_arg2
abbrev tLoc (d : Dev nD) : Loc nD τ sig := (SparseCore.T d).loc main_v0
abbrev sLoc (d : Dev nD) : Loc nD τ sig := (SparseCore.T d).loc main_v1

variable (m : (ℓ : Loc nD τ sig) → Buf (Elt F) ℓ)

/-- The mask argument laid out as one row of 128 numbers: the table that every task looks numbers up in. -/
def table (d : Dev nD) : S128.Idx → F .f32 :=
  shapeCast S128 (m (gLoc d) : S8x16x1.Idx → F .f32) shapeCasts_S8x16x1_S128

/-- The table as contents of the array that the tasks read it from. -/
abbrev tabBuf (d : Dev nD) : Buf (Elt F) (tLoc d) := table m d

/-- Position `n` of the table; the remainder is there so that every number names a position, and changes none below 128. -/
abbrev tabIx (n : ℕ) : S128.Idx := ix1 (n := 128) ⟨n % 128, Nat.mod_lt _ (by norm_num)⟩

/-- The place in the index array of the index that the `n`-th gathered number is looked up with. -/
abbrev idxIx (n : ℕ) (h : n < 16384) : S8x2048.Idx :=
  ix2 (n0 := 8) (n1 := 2048) ⟨n / 2048, by omega⟩ ⟨n % 2048, Nat.mod_lt _ (by norm_num)⟩

/-- What the tasks compute together: number `j` is the table's entry at sixteen times its batch plus its index. -/
def gathered (t : S128.Idx → F .f32) (ix : S8x2048.Idx → BitVec 32) : S16384.Idx → F .f32 :=
  fun j => t (tabIx (16 * ((j 0).val / 2048) + (ix (idxIx (j 0).val (j 0).isLt)).toNat))

/-- What the proof asks of the launch memory: every index names one of the sixteen mask rows. -/
def PreOK : Prop := ∀ (d : Dev nD) (j : S8x2048.Idx), ((m (iLoc d) : S8x2048.Idx → BitVec 32) j).toNat < 16

/-! ## The thirty-two tasks -/

/-- The number of the task on SparseCore `c`'s vector subcore `s`. -/
def wid (c s : ℕ) : Fin 32 := ⟨(2 * s + c) % 32, Nat.mod_lt _ (by norm_num)⟩

/-- The result divides into thirty-two equal parts, -/
theorem tdiv : 32 ∣ S16384.size 0 := ⟨512, rfl⟩

/-- The 512 consecutive numbers of the result that task `w` writes. -/
abbrev tileRect (w : Fin 32) : Rect S16384 := Rect.part (s := S16384) (a₀ := 0) tdiv w
abbrev tileSet (w : Fin 32) : Finset S16384.Idx := (tileRect w).set

/-- no two of which meet, -/
theorem tiles_disjoint : ∀ i ∈ (Finset.univ : Finset (Fin 32)), ∀ j ∈ (Finset.univ : Finset (Fin 32)), i ≠ j → Disjoint (tileSet i) (tileSet j) :=
  fun _ _ _ _ h => Rect.part_disjoint tdiv h

/-- and which together are the whole. -/
theorem tiles_cover : (Finset.univ : Finset (Fin 32)).biUnion tileSet = Finset.univ := Rect.biUnion_part tdiv

/-- Task `w`'s read share of an array that every task reads. -/
abbrev sh (w : Fin 32) : PosShare TreeShare := leaf 5 fullShare w

/-- What task `w` holds: a share of the indices, a share of the table, and its part of the result at contents `f`. -/
abbrev tile (d : Dev nD) (w : Fin 32) (f : Buf (Elt F) (sLoc d)) : sProp 𝕄 :=
  iprop((iLoc d ↦{sh w} m (iLoc d)) ∗ (tLoc d ↦{sh w} tabBuf m d) ∗ sLoc d ↦[tileSet w]{fullShare} f)

/-- The gathered numbers as contents of the result array. -/
abbrev result (d : Dev nD) : Buf (Elt F) (sLoc d) := gathered (table m d) (m (iLoc d))

variable [FloatOps F] [Named F]

/-- The one call's handshakes: every task is handed its part of the result as it was at launch and hands it back with
    the gathered numbers; a SparseCore is handed what its sixteen tasks are. -/
def P : (K (F := F)).Pay (nD := nD) (Val := Elt F) (Name := ℕ) (U := UU) where
  st := fun q d c => match q with | 0 => bigSep Finset.univ fun i : Fin ((K (F := F)).nSub 0) => tile m d (wid c.val i.val) (m (sLoc d))
  dn := fun q d c => match q with | 0 => bigSep Finset.univ fun i : Fin ((K (F := F)).nSub 0) => tile m d (wid c.val i.val) (result m d)
  go := fun q d c i => match q with | 0 => tile m d (wid c.val i.val) (m (sLoc d))
  td := fun q d c i => match q with | 0 => tile m d (wid c.val i.val) (result m d)
  x := fun _ _ => iprop(emp)

/-- What the handshakes carry can be kept in an invariant. -/
instance P_storable : (P (F := F) m).IsStorable where
  st q d c := match q with
    | 0 => (inferInstance : BI.Storable (upEmb : UEmb _ 𝕄)
        (bigSep Finset.univ fun i : Fin ((K (F := F)).nSub 0) => tile m d (wid c.val i.val) (m (sLoc d))))
  dn q d c := match q with
    | 0 => (inferInstance : BI.Storable (upEmb : UEmb _ 𝕄)
        (bigSep Finset.univ fun i : Fin ((K (F := F)).nSub 0) => tile m d (wid c.val i.val) (result m d)))
  go q d c i := match q with
    | 0 => (inferInstance : BI.Storable (upEmb : UEmb _ 𝕄) (tile m d (wid c.val i.val) (m (sLoc d))))
  td q d c i := match q with
    | 0 => (inferInstance : BI.Storable (upEmb : UEmb _ 𝕄) (tile m d (wid c.val i.val) (result m d)))

/-- A SparseCore's hand-over is its tasks' at once. -/
theorem vecSplit : (K (F := F)).VecSplit' (P m) 0 := by
  intro d c
  show (bigSep Finset.univ fun i : Fin ((K (F := F)).nSub 0) => tile m d (wid c.val i.val) (m (sLoc d)))
    ⊢ |={Set.univ}=> iprop((bigSep Finset.univ fun i : Fin ((K (F := F)).nSub 0) => tile m d (wid c.val i.val) (m (sLoc d)))
        ∗ ((bigSep Finset.univ fun i : Fin ((K (F := F)).nSub 0) => tile m d (wid c.val i.val) (result m d))
          -∗ bigSep Finset.univ fun i : Fin ((K (F := F)).nSub 0) => tile m d (wid c.val i.val) (result m d)))
  iintro H; imodintro
  isplitl [H]; · iexact H
  iintro H; iexact H

/-! ## The whole arrays are the tasks' parts -/

/-- The two SparseCores' sixteen tasks are the thirty-two. -/
theorem tasks_eq (Φ : Fin 32 → sProp 𝕄) :
    (bigSep Finset.univ fun c : Fin ((K (F := F)).nCore 0) => bigSep Finset.univ fun i : Fin ((K (F := F)).nSub 0) => Φ (wid c.val i.val))
      = bigSep Finset.univ Φ := by
  have e (p : Fin 2 × Fin 16) : wid p.1.val p.2.val = (finProdFinEquiv.trans (finCongr (by norm_num)) : Fin 16 × Fin 2 ≃ Fin 32) (p.2, p.1) := by
    refine Fin.ext ?_
    have h1 := p.1.isLt
    have h2 := p.2.isLt
    show (2 * p.2.val + p.1.val) % 32 = (finProdFinEquiv (p.2, p.1)).val
    rw [finProdFinEquiv_apply_val]
    show (2 * p.2.val + p.1.val) % 32 = p.1.val + 2 * p.2.val
    omega
  rw [bigSep_univ_equiv ((Equiv.prodComm (Fin 2) (Fin 16)).trans (finProdFinEquiv.trans (finCongr (by norm_num)) : Fin 16 × Fin 2 ≃ Fin 32)) Φ]
  refine Eq.trans ?_ ((bigSep_congr fun p _ => congrArg Φ (e p)).trans rfl)
  rw [bigSep_univ_prod]

/-- The indices, the table and the result, whole, are what the thirty-two tasks hold. -/
theorem tiles_eq (d : Dev nD) (f : Buf (Elt F) (sLoc d)) :
    (iprop((iLoc d ↦{fullShare} m (iLoc d)) ∗ (tLoc d ↦{fullShare} tabBuf m d) ∗ sLoc d ↦{fullShare} f) : sProp 𝕄)
      = bigSep Finset.univ fun w : Fin 32 => tile m d w f := by
  have hs : (sLoc d ↦{fullShare} f : sProp 𝕄) = bigSep Finset.univ fun w : Fin 32 => sLoc d ↦[tileSet w]{fullShare} f := by
    rw [← pointsTo_biUnion Finset.univ (ℓ := sLoc d) tileSet tiles_disjoint, tiles_cover]
  have hi : (iLoc d ↦{fullShare} m (iLoc d) : sProp 𝕄) = bigSep Finset.univ fun w : Fin 32 => iLoc d ↦{sh w} m (iLoc d) :=
    pointsTo_leaves Finset.univ (m (iLoc d)) 5 fullShare
  have ht : (tLoc d ↦{fullShare} tabBuf m d : sProp 𝕄) = bigSep Finset.univ fun w : Fin 32 => tLoc d ↦{sh w} tabBuf m d :=
    pointsTo_leaves Finset.univ (tabBuf m d) 5 fullShare
  rw [bigSep_sep', bigSep_sep', hs, hi, ht]

end Cert.Proof.Run

end
-- ==== Proof.Tile.lean ====
/-
  One vector-subcore task: it copies the table and its 512 indices into its own memory, looks the 512 numbers up sixteen
  at a time, and copies them out to its part of the result.
-/
module

public import proofs.«01_k».proof.Proof.Setup
public import Idealize.ShloMosaic.Lib.WritesUnit

@[expose] public section

noncomputable section

namespace Cert.Proof.Run

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S8x2048 EltTy.i32)
local notation "tV" => (Memref.whole Cert.KernelIdeal.main_v0_scv : Memref Cert.KernelIdeal.sig Kind.scVector Space.hbm Cert.KernelIdeal.S128 EltTy.f32)
local notation "oV" => (Memref.whole Cert.KernelIdeal.main_v1_scv : Memref Cert.KernelIdeal.sig Kind.scVector Space.hbm Cert.KernelIdeal.S16384 EltTy.f32)
local notation "sI" => (Memref.whole Cert.KernelIdeal.cc0_scratch0 : Memref Cert.KernelIdeal.sig Kind.scVector Space.vmem Cert.KernelIdeal.S512 EltTy.i32)
local notation "sT" => (Memref.whole Cert.KernelIdeal.cc0_scratch1 : Memref Cert.KernelIdeal.sig Kind.scVector Space.vmem Cert.KernelIdeal.S128 EltTy.f32)
local notation "sO" => (Memref.whole Cert.KernelIdeal.cc0_scratch2 : Memref Cert.KernelIdeal.sig Kind.scVector Space.vmem Cert.KernelIdeal.S512 EltTy.f32)

variable (m : (ℓ : Loc nD τ sig) → Buf (Elt F) ℓ)
variable [FloatOps F] [Named F]
variable (d : Dev nD) (L : grid0.Coords)

abbrev cV (L : grid0.Coords) : Fin τ.nSC := (L 0).castLE hcore0
abbrev jV (L : grid0.Coords) : Fin τ.nSub := (L 1).castLE hsub0

/-- The task's three buffers of its own: the indices it fetched, the table it fetched, the numbers it looked up. -/
abbrev aLoc : Loc nD τ sig := (V d (cV L) (jV L)).loc cc0_scratch0
abbrev bLoc : Loc nD τ sig := (V d (cV L) (jV L)).loc cc0_scratch1
abbrev oLoc : Loc nD τ sig := (V d (cV L) (jV L)).loc cc0_scratch2

/-- The number looked up at position `n` of the fetched indices: the table's at `base` more than the index. -/
def looked (base : ℕ) (fi : S512.Idx → BitVec 32) (tb : S128.Idx → F .f32) : S512.Idx → F .f32 :=
  fun j => tb (tabIx (base + (fi j).toNat))

/-- After `t` trips the first `16 t` numbers are looked up; the indices and the table are as fetched. -/
def lookInv (base : ℕ) (fi : Buf (Elt F) (aLoc d L)) (tb : Buf (Elt F) (bLoc d L)) (t : ℕ) : sProp 𝕄 :=
  iprop(((sI).view.loc (V d (cV L) (jV L)) ↦{fullShare} fi) ∗ ((sT).view.loc (V d (cV L) (jV L)) ↦{fullShare} tb)
    ∗ ∃ f : Buf (Elt F) (oLoc d L), ⌜∀ j : S512.Idx, (j 0).val < 16 * t → f j = looked base fi tb j⌝
      ∗ (sO).view.loc (V d (cV L) (jV L)) ↦{fullShare} f)

/-- Two positions of a one-axis array are one when their numbers are. -/
theorem ext1 {n : ℕ} {a b : (⟨1, ![n]⟩ : Shape).Idx} (h : (a 0).val = (b 0).val) : a = b := by
  funext i
  have hi : i = 0 := Subsingleton.elim (α := Fin 1) _ _
  subst hi
  exact Fin.ext h

/-- The look-up loop takes at most thirty-two trips. -/
theorem trips_le : k0_t1_loop.trips ≤ 32 := k0_t1_abs.2.1

/-- Lane `x` of trip `t` reads and writes position `16 t + x`. -/
abbrev lane (t : Fin k0_t1_loop.trips) (x : S16.Idx) : S512.Idx :=
  ix1 (n := 512) ⟨16 * t.val + (x 0).val, by have h1 : (x 0).val < 16 := (x 0).isLt; have h2 := trips_le; have h3 := t.isLt; omega⟩

/-- The piece of a task's buffer that trip `t` addresses has lane `x` at that position. -/
theorem emb_lane (t : Fin k0_t1_loop.trips) (x : S16.Idx) :
    (Rect.unit (s := S512) (k0_off2 t) S16.size (k0_off2_inb t)).toLoadRect.idx x = lane t x := by
  refine ext1 (n := 512) ?_
  show k0_off2 t 0 + 1 * (x 0).val = 16 * t.val + (x 0).val
  rw [k0_off2_eq, Nat.one_mul]
  rfl

/-- One trip of the loop looks sixteen more numbers up. -/
theorem trip (v30 : BitVec 32) (r : ℕ) (hr : r < 8) (hv : v30.toNat = 16 * r)
    (fi : Buf (Elt F) (aLoc d L)) (hfi : ∀ j : S512.Idx, ((fi : S512.Idx → BitVec 32) j).toNat < 16) (tb : Buf (Elt F) (bLoc d L))
    (t : Fin k0_t1_loop.trips) :
    lookInv d L (16 * r) fi tb t.val
      ⊢ wp frame (wpE (defs₀ (F := F)) 𝒱₀ (V d (cV L) (jV L)) none) Set.univ
          (k0_t1_body L iV (Memref.isWhole_whole _) tV (Memref.isWhole_whole _) oV (Memref.isWhole_whole _) sI (Memref.isWhole_whole _)
            sT (Memref.isWhole_whole _) sO (Memref.isWhole_whole _) cc0_scoped0 cc0_scoped1 cc0_scoped2 v30 t ())
          fun _ => lookInv d L (16 * r) fi tb (t.val + 1) := by
  unfold lookInv k0_t1_body
  iintro ⟨Ha, Hb, %f, %hf, Ho⟩
  sl_exec
  have e38 : ∀ x : S16.Idx, (trip.sl.v38 d L v30 fi t x).toNat = 16 * r + ((fi : S512.Idx → BitVec 32) (lane t x)).toNat := by
    intro x
    have e : trip.sl.v38 d L v30 fi t x = IntOp.addi ((fi : S512.Idx → BitVec 32) (lane t x)) v30 := by
      rw [← emb_lane]; rfl
    have h1 := hfi (lane t x)
    rw [e]
    show (_ + _ : BitVec 32).toNat = _
    rw [BitVec.toNat_add, hv]
    omega
  have hchk : k0_chk1 (trip.sl.v38 d L v30 fi t) := by
    intro a x
    have h : a = 0 := Subsingleton.elim _ _
    subst h
    show (trip.sl.v38 d L v30 fi t x).toNat < 128
    rw [e38]; have := hfi (lane t x); omega
  rw [wp_assume_of _ _ _ _ hchk]
  iapply (SparseCore.wp_vectorLoadIdx 𝒱₀ (V d (cV L) (jV L)) none Set.univ (base := sT) (S := Finset.univ) (q := fullShare) (Finset.subset_univ _)) $$ Hb
  iintro Hb
  sl_exec
  sl_step
  isplitl [Ha]; · iexact Ha
  isplitl [Hb]; · iexact Hb
  iexists _; isplitr
  swap; · iexact Ho
  ipureintro; intro j hj
  have hoff : k0_off3 t = ![16 * t.val] := k0_off3_eq t
  by_cases h : 16 * t.val ≤ (j 0).val
  · have hx : (j 0).val - 16 * t.val < 16 := by omega
    refine (View.read_writes_cons_unit_of_mem (sO).view f (k0_off3_inb t) _ [] j (ix1 (n := 16) ⟨(j 0).val - 16 * t.val, hx⟩) hoff ?_).trans ?_
    · intro a
      have h0 : a = 0 := Subsingleton.elim (α := Fin 1) _ _
      subst h0
      show (j 0).val = 16 * t.val + ((j 0).val - 16 * t.val)
      omega
    · have hj' : lane t (ix1 (n := 16) ⟨(j 0).val - 16 * t.val, hx⟩) = j := by
        refine ext1 (n := 512) ?_
        show 16 * t.val + ((j 0).val - 16 * t.val) = (j 0).val
        omega
      have e := e38 (ix1 (n := 16) ⟨(j 0).val - 16 * t.val, hx⟩)
      rw [hj'] at e
      have hb := hfi j
      refine congrArg (tb : S128.Idx → F .f32) (ext1 (n := 128) ?_)
      show 0 + 1 * (trip.sl.v38 d L v30 fi t (ix1 (n := 16) ⟨(j 0).val - 16 * t.val, hx⟩)).toNat = (16 * r + ((fi : S512.Idx → BitVec 32) j).toNat) % 128
      rw [e, Nat.mod_eq_of_lt (by omega)]
      omega
  · refine (View.read_writes_cons_unit_of_not_mem (sO).view f (k0_off3_inb t) _ [] j hoff 0 (Or.inl ?_)).trans ?_
    · show (j 0).val < 16 * t.val
      omega
    · exact hf j (by omega)

/-! ## Where a task reads and writes -/

/-- The task's number. -/
abbrev wK (L : grid0.Coords) : Fin 32 := wid (L 0).val (L 1).val

/-- The number of the task at a place of the grid. -/
theorem wK_val : (wK L).val = 2 * (L 1).val + (L 0).val := by
  have h0 : (L 0).val < 2 := (L 0).isLt
  have h1 : (L 1).val < 16 := (L 1).isLt
  show (2 * (L 1).val + (L 0).val) % 32 = _
  omega

/-- Where a task's indices start in the index array. -/
theorem off1_eq : ∀ L : grid0.Coords, k0_off1 L = ![(2 * (L 1).val + (L 0).val) / 4, ((2 * (L 1).val + (L 0).val) % 4) * 512] := by decide +kernel

/-- Where a task's numbers start in the result. -/
theorem off4_eq : ∀ L : grid0.Coords, k0_off4 L = ![512 * (2 * (L 1).val + (L 0).val)] := by decide +kernel

/-- The task's 512 indices, as it addresses them. -/
abbrev iPart (L : grid0.Coords) : Memref sig .scVector .hbm S512 .i32 :=
  ((iV).slice (Rect.unit (s := S8x2048) (k0_off1 L) S1x512.size (k0_off1_inb L)) (fun _ => rfl)).squeeze S512 squeezes_S1x512_S512
/-- The task's part of the result, as it addresses it. -/
abbrev oRect (L : grid0.Coords) : Rect S16384 := Rect.unit (s := S16384) (k0_off4 L) S512.size (k0_off4_inb L)
abbrev oPart (L : grid0.Coords) : Memref sig .scVector .hbm S512 .f32 := (oV).slice (oRect L) (fun _ => rfl)

/-- The part of the result that a task copies to is its tile. -/
theorem oRect_eq : oRect L = tileRect (wK L) := by
  unfold oRect tileRect Rect.part Rect.block
  congr 1 <;> funext a
  · have h : a = 0 := Subsingleton.elim (α := Fin 1) _ _
    subst h
    rw [off4_eq, ← wK_val]
    show 512 * (wK L).val = _
    simp [Shape.partIx, Shape.partSize]
    omega
  · have h : a = 0 := Subsingleton.elim (α := Fin 1) _ _
    subst h
    simp [Shape.partSize]

/-- The places that the copy writes are the tile's. -/
theorem set_oPart : (oPart L).view.set = tileSet (wK L) := by
  show ((View.whole (main_v1_scv : Ref sig .scVector)).slice (oRect L)).set = _
  rw [View.set_slice, oRect_eq]; exact Finset.map_refl

/-- Number `x` of the task's part of the result is number `512 w + x` of the result. -/
theorem oPart_emb (x : S512.Idx) : ((oPart L).view.emb x 0).val = 512 * (wK L).val + (x 0).val := by
  show k0_off4 L 0 + 1 * (x 0).val = _
  rw [off4_eq, wK_val, Nat.one_mul]; rfl

/-- The task's `x`-th index is the one that number `512 w + x` of the result is looked up with. -/
theorem iPart_emb (x : S512.Idx) :
    (iPart L).view.emb x = idxIx (512 * (wK L).val + (x 0).val) (by have := (wK L).isLt; have : (x 0).val < 512 := (x 0).isLt; omega) := by
  have hx : (x 0).val < 512 := (x 0).isLt
  have e : Shape.reshapeEquiv (s := S1x512) (s' := S512) squeezes_S1x512_S512.numel_eq x = ix2 (n0 := 1) (n1 := 512) 0 ⟨(x 0).val, hx⟩ := by
    refine Shape.reshapeEquiv_eq_of_rowMajor _ ?_
    rw [Shape.rowMajor_val_two, Shape.rowMajor_val_one]
    show 0 * 512 + (x 0).val = (x 0).val
    omega
  show (Rect.unit (s := S8x2048) (k0_off1 L) S1x512.size (k0_off1_inb L)).emb (Shape.reshapeEquiv (s := S1x512) (s' := S512) squeezes_S1x512_S512.numel_eq x) = _
  rw [e]
  have h0 : (L 0).val < 2 := (L 0).isLt
  have h1 : (L 1).val < 16 := (L 1).isLt
  have hw := wK_val L
  funext a
  match a with
  | ⟨0, _⟩ =>
    refine Fin.ext ?_
    show k0_off1 L 0 + 1 * 0 = (512 * (wK L).val + (x 0).val) / 2048
    rw [off1_eq, hw]
    show (2 * (L 1).val + (L 0).val) / 4 + 1 * 0 = _
    omega
  | ⟨1, _⟩ =>
    refine Fin.ext ?_
    show k0_off1 L 1 + 1 * (x 0).val = (512 * (wK L).val + (x 0).val) % 2048
    rw [off1_eq, hw]
    show ((2 * (L 1).val + (L 0).val) % 4) * 512 + 1 * (x 0).val = _
    omega

/-- Holding the tile is holding what the copy writes. -/
theorem pts_oPart (f : Buf (Elt F) (sLoc d)) :
    ((oPart L).view.loc (V d (cV L) (jV L)) ↦[(oPart L).view.set]{fullShare} f : sProp 𝕄) = sLoc d ↦[tileSet (wK L)]{fullShare} f := by
  rw [set_oPart]

/-! ## The task's own semaphores and buffers -/

abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)

/-- A task's own semaphores, one by one. -/
theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L)) fun g => semVal g 0) := by
  have m0 : cell0 d L ∈ ownCells (V d (cV L) (jV L)) := mem_ownCells.mpr ⟨rfl, by show (SemLoc.dma cc0_scoped0.sem : SemLoc sig).isScoped .scVector = true; decide⟩
  have m1 : cell1 d L ∈ ownCells (V d (cV L) (jV L)) := mem_ownCells.mpr ⟨rfl, by show (SemLoc.dma cc0_scoped1.sem : SemLoc sig).isScoped .scVector = true; decide⟩
  have m2 : cell2 d L ∈ ownCells (V d (cV L) (jV L)) := mem_ownCells.mpr ⟨rfl, by show (SemLoc.dma cc0_scoped2.sem : SemLoc sig).isScoped .scVector = true; decide⟩
  have n10 : cell1 d L ≠ cell0 d L := by simp [cell0, cell1]; decide
  have n20 : cell2 d L ≠ cell0 d L := by simp [cell0, cell2]; decide
  have n21 : cell2 d L ≠ cell1 d L := by simp [cell1, cell2]; decide
  unfold SparseCore.Cfg.ownSems0
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

abbrev own (b : Ref sig .scVector) : DevRef τ sig := (Proc.scVector (cV L) (jV L)).devRef b

/-- A task's own buffers, one by one. -/
theorem ownBufs_V :
    (ownBufs (V d (cV L) (jV L)) : sProp 𝕄)
      = iprop((∃ f, (sI).view.loc (V d (cV L) (jV L)) ↦{fullShare} f) ∗ (∃ f, (sT).view.loc (V d (cV L) (jV L)) ↦{fullShare} f)
          ∗ (∃ f, (sO).view.loc (V d (cV L) (jV L)) ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  have m0 : own L cc0_scratch0 ∈ ownRefs (τ := τ) (.scVector (cV L) (jV L)) := SparseCore.Cfg.mem_ownRefs_of_owner (p := Proc.scVector (cV L) (jV L)) rfl
  have m1 : own L cc0_scratch1 ∈ ownRefs (τ := τ) (.scVector (cV L) (jV L)) := SparseCore.Cfg.mem_ownRefs_of_owner (p := Proc.scVector (cV L) (jV L)) rfl
  have m2 : own L cc0_scratch2 ∈ ownRefs (τ := τ) (.scVector (cV L) (jV L)) := SparseCore.Cfg.mem_ownRefs_of_owner (p := Proc.scVector (cV L) (jV L)) rfl
  have n10 : own L cc0_scratch1 ≠ own L cc0_scratch0 := fun e => absurd (Proc.devRef_injective _ e) (show (cc0_scratch1 : Ref sig .scVector) ≠ cc0_scratch0 by decide)
  have n20 : own L cc0_scratch2 ≠ own L cc0_scratch0 := fun e => absurd (Proc.devRef_injective _ e) (show (cc0_scratch2 : Ref sig .scVector) ≠ cc0_scratch0 by decide)
  have n21 : own L cc0_scratch2 ≠ own L cc0_scratch1 := fun e => absurd (Proc.devRef_injective _ e) (show (cc0_scratch2 : Ref sig .scVector) ≠ cc0_scratch1 by decide)
  unfold SparseCore.Cfg.ownBufs
  refine (SparseCore.bigSep_erase' m0).trans ?_
  rw [SparseCore.bigSep_erase' (Finset.mem_erase.mpr ⟨n10, m1⟩), SparseCore.bigSep_erase' (Finset.mem_erase.mpr ⟨n21, Finset.mem_erase.mpr ⟨n20, m2⟩⟩)]

/-! ## The task -/

/-- The task's 512 indices. -/
def part (m : (ℓ : Loc nD τ sig) → Buf (Elt F) ℓ) (d : Dev nD) (L : grid0.Coords) : S512.Idx → BitVec 32 := fun x =>
  (m (iLoc d) : S8x2048.Idx → BitVec 32) (idxIx (512 * (wK L).val + (x 0).val) (by have := (wK L).isLt; have : (x 0).val < 512 := (x 0).isLt; omega))

/-- The loop's trips of sixteen lanes cover a task's 512 numbers. -/
theorem trips_512 : 16 * Scf.trips k0_t1_loop.lb k0_t1_loop.ub k0_t1_loop.st = 512 := by decide +kernel

/-- What the task looks up at place `x` is the result's number `512 w + x`. -/
theorem looked_eq (x : S512.Idx) :
    looked (16 * ((wK L).val / 4)) (part m d L) (table m d) x = (result m d : S16384.Idx → F .f32) ((oPart L).view.emb x) := by
  have hx : (x 0).val < 512 := (x 0).isLt
  have e := oPart_emb L x
  have e' : 512 * (wK L).val + (x 0).val = ((oPart L).view.emb x 0).val := e.symm
  unfold looked part result gathered
  refine congrArg (table m d) (congrArg tabIx ?_)
  refine congrArg₂ (· + ·) ?_ ?_
  · rw [← e']; omega
  · refine congrArg (fun y => ((m (iLoc d) : S8x2048.Idx → BitVec 32) y).toNat) ?_
    congr 1

set_option maxHeartbeats 4000000 in
/-- The task on vector subcore `(L 0, L 1)` of device `d`: from its shares of the indices and the table and its part of
    the result at any contents, it ends with that part at the gathered numbers. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tile m d (wK L) (m (sLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iV (Memref.isWhole_whole _) tV (Memref.isWhole_whole _) oV (Memref.isWhole_whole _) sI (Memref.isWhole_whole _)
            sT (Memref.isWhole_whole _) sO (Memref.isWhole_whole _) cc0_scoped0 cc0_scoped1 cc0_scoped2)
          fun _ => iprop(tile m d (wK L) (result m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, Hs⟩, ⟨⟨%fa, Ha⟩, ⟨%fb, Hb⟩, ⟨%fo, Ho⟩, Hbufs⟩, ⟨Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (show (iLoc d ↦{sh (wK L)} m (iLoc d) : sProp 𝕄) = (iV).view.loc (V d (cV L) (jV L)) ↦{sh (wK L)} m (iLoc d) from rfl)) $$ Hi
  ihave Ht := (Entails.of_eq (show (tLoc d ↦{sh (wK L)} tabBuf m d : sProp 𝕄) = (tV).view.loc (V d (cV L) (jV L)) ↦{sh (wK L)} tabBuf m d from rfl)) $$ Ht
  ihave Hs := (Entails.of_eq (pts_oPart (F := F) d L _).symm) $$ Hs
  sl_exec
  -- the two copies in: the task's indices and the whole table
  have hr : (wK L).val / 4 < 8 := by have := (wK L).isLt; omega
  have hv : (tile_body.sl.v30 L : BitVec 32).toNat = 16 * ((wK L).val / 4) := by
    clear * -
    revert L
    decide +kernel
  have efi : View.write (Elt F) (sI).view fa (tile_body.sl.dma0_1 m d L) Finset.univ = part m d L := by
    refine (View.write_whole_univ _ _ _).trans ?_
    funext x
    exact congrArg (m (iLoc d) : S8x2048.Idx → BitVec 32) (iPart_emb L x)
  have etb : View.write (Elt F) (sT).view fb (tile_body.sl.dma0 m d) Finset.univ = table m d := by
    refine (View.write_whole_univ _ _ _).trans ?_
    rfl
  rw [efi, etb]
  sl_for (fun t _ => lookInv d L (16 * ((wK L).val / 4)) (part m d L) (table m d) t) $$ [Ha Hb Ho]
  case region =>
    intro k _
    exact trip d L _ _ hr hv _ (fun j => hpre d _) _ k
  · unfold lookInv
    isplitl [Ha]; · iexact Ha
    isplitl [Hb]; · iexact Hb
    iexists fo; isplitr
    · ipureintro; intro j hj; exact absurd hj (by omega)
    · iexact Ho
  iintro %_ H
  unfold lookInv
  icases H with ⟨Ha, Hb, %f, %hf, Ho⟩
  sl_exec
  sl_step
  have hres : ∀ y ∈ (oPart L).view.set,
      (oPart L).view.writes (Elt F) (m (sLoc d)) [⟨Rect.whole S512, tile_body.sl.dma0_2 d L f⟩] y = (result m d : S16384.Idx → F .f32) y := by
    intro y hy
    obtain ⟨x, -, rfl⟩ := Finset.mem_map.mp hy
    refine (congrFun (View.read_writes_whole (oPart L).view (m (sLoc d)) (tile_body.sl.dma0_2 d L f)) x).trans ?_
    have hx : (x 0).val < 512 := (x 0).isLt
    refine (hf x (lt_of_lt_of_eq hx trips_512.symm)).trans ?_
    exact looked_eq m d L x
  isplitl [Hi Ht Hs]
  · unfold tile
    isplitl [Hi]; · iexact Hi
    isplitl [Ht]; · iexact Ht
    iapply (Entails.of_eq (pts_oPart (F := F) d L (result m d))) $$ [Hs]
    iapply (Entails.of_eq (pointsTo_congr hres)) $$ Hs
  isplitl [Ha Hb Ho Hbufs]
  · isplitl [Ha]; · iexists _; iexact Ha
    isplitl [Hb]; · iexists _; iexact Hb
    isplitl [Ho]; · iexists _; iexact Ho
    iexact Hbufs
  isplitl [Hc0 Hc1 Hc2 Hsems]
  · isplitl [Hc0]; · iexact Hc0
    isplitl [Hc1]; · iexact Hc1
    isplitl [Hc2]; · iexact Hc2
    iexact Hsems
  iexists _; isplitr
  swap; · iexact HO
  ipureintro; intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

/-! ## The launch's obligation to its tasks -/

/-- The grid coordinates of SparseCore `c`'s subcore `s`. -/
abbrev coordsOf (c : Fin (grid0.bound 0)) (s : Fin (grid0.bound 1)) : grid0.Coords := fun
  | 0 => c
  | 1 => s
  | ⟨_ + 2, h⟩ => absurd h (Nat.not_lt.2 (Nat.le_add_left _ _))

set_option maxRecDepth 16384 in
/-- The function that a vector subcore runs is the look-up task. -/
theorem defs₀_vector (c : Fin τ.nSC) (s : Fin τ.nSub) :
    defs₀ (F := F) (.scVector c s) 0 ()
      = SparseCore.onTile hcore0 hsub0 (fun c s => cc0_k (F := F) (coordsOf c s) iV (Memref.isWhole_whole _) tV (Memref.isWhole_whole _)
          oV (Memref.isWhole_whole _) sI (Memref.isWhole_whole _) sT (Memref.isWhole_whole _) sO (Memref.isWhole_whole _)
          cc0_scoped0 cc0_scoped1 cc0_scoped2) ⟨⟩ c s := rfl

/-- A weaker word on the waits a task records. -/
theorem widen {thr : Thread nD τ} {A B C : sProp 𝕄} {O : CellTallies nD τ sig (HIx 1)} {W : Waits sig (HIx 1)} {R : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') :=
  sep_mono_right (sep_mono_right (sep_mono_right (exists_mono fun _ => sep_mono_left (BI.pure_mono fun h p hp => (h p hp).imp_right Or.inl))))

/-- Every task of the launch meets what the launch promises of it. -/
theorem tileObl (hpre : PreOK m) : (K (F := F)).TileObl D 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg D (Pipeline.defs_kernel pcfgs defs₀) 𝒱₀ _ Set.univ none _ _)
  have hci : ((K (F := F)).core 0 c).val < grid0.bound 0 ∧ ((K (F := F)).sub 0 i).val < grid0.bound 1 := ⟨c.isLt, i.isLt⟩
  rw [defs₀_vector]; simp only [SparseCore.onTile, hci, and_self, ↓reduceDIte]
  exact (tile_body m d (coordsOf ⟨_, hci.1⟩ ⟨_, hci.2⟩) facts hpre O W hO).trans (wp_mono frame _ _ fun _ => widen)

end Cert.Proof.Run

end
-- ==== Proof.Scale.lean ====
/-
  The TensorCore's body at one grid point: from a block of 2048 rows of the data and the block of 2048 looked-up numbers
  that belongs to it, held as 16 rows of 128, it leaves each data row times its number times the named constant.
-/
module

public import proofs.«01_k».proof.Proof.Setup
public import Idealize.ShloMosaic.Lib.Writes
public import Idealize.ShloMosaic.Lib.ValueLayout
public import Idealize.ShloMosaic.Lib.Pipeline.Value

@[expose] public section

noncomputable section

namespace Cert.Proof.Run

open Cert.KernelIdeal Cert.KernelIdeal.Gen
open Idealize.ShloMosaic
open Idealize.ShloMosaic.TcCoe
open Idealize.ShloMosaic.ValueIdx (ix1 ix2)
open Idealize.SL Idealize.SL.RA
open Idealize.SL.BI (sProp)
open scoped Idealize.SL.BI
open Idealize.SL.BI.BIBase Idealize.SL.BI.Laws Idealize.SL.Sem Idealize.SL.ProofMode
open Idealize.ShloMosaic.Tactic

variable {F : FTy → Type}

local notation "𝕄" => MT nD τ sig (SparseCore.Cfg.HIx 1) (Elt F) ℕ UU ℕ

variable [FloatOps F] [Named F]

/-- The constant that every looked-up number is multiplied by. -/
def keepInv : F .f32 := Named.named κ "inv_keep" 0x3F8E38E4#32

/-- Where row `r` of a block finds its number. -/
def cellOf (r : ℕ) (h : r < 2048) : S16x128.Idx := ix2 (n0 := 16) (n1 := 128) ⟨r / 128, by omega⟩ ⟨r % 128, Nat.mod_lt _ (by decide)⟩

/-- A block of data rows, each times its number times the constant. -/
def scaled (x : S2048x512.Idx → F .f32) (s : S16x128.Idx → F .f32) : S2048x512.Idx → F .f32 := fun y =>
  FloatOps.mulf (x y) (FloatOps.mulf (s (cellOf (y 0).val (y 0).isLt)) keepInv)

/-- The numbers times the constant, laid out with a column of 128 for each of the block's 16 strips of rows. -/
theorem column_apply (s : S16x128.Idx → F .f32) (p : Fin 128) (r : Fin 16) :
    k1_pay2 (F := F) s (ix2 p r) = FloatOps.mulf (s (ix2 r p)) keepInv := by
  unfold k1_pay2
  rw [shapeCast_self]
  exact ValueIdx.transpose_ix2_apply _ _ p r

/-- What the body stores for strip `r`, the rows from `o = 128 r`: those rows of the data times column `r`. -/
abbrev strip {r o : ℕ} (inb : ∀ a, (![o, 0] : Fin 2 → ℕ) a + S128x512.size a ≤ S2048x512.size a) (sl : S128x16.Slices ![0, r] S128x1)
    (x : S2048x512.Idx → F .f32) (s : S16x128.Idx → F .f32) : S128x512.Idx → F .f32 :=
  mulf (shapeCast S128x512 (fun j => x ((Rect.unit (s := S2048x512) ![o, 0] S128x512.size inb).emb j)) shapeCasts_S128x512_S128x512)
    (broadcastTo S128x512 (extractStridedSlice S128x1 ![0, r] (k1_pay2 (F := F) s) sl) broadcasts_S128x1_S128x512)

/-- A strip is those rows of the scaled block. -/
theorem strip_eq {r o : ℕ} (hr : r < 16) (ho : o = 128 * r) (inb : ∀ a, (![o, 0] : Fin 2 → ℕ) a + S128x512.size a ≤ S2048x512.size a)
    (sl : S128x16.Slices ![0, r] S128x1) (x : S2048x512.Idx → F .f32) (s : S16x128.Idx → F .f32)
    (j : S128x512.Idx) : strip inb sl x s j = scaled x s ((Rect.unit (s := S2048x512) ![o, 0] S128x512.size inb).emb j) := by
  have hj : (j 0).val < 128 := (j 0).isLt
  refine congrArg₂ FloatOps.mulf (congrFun (shapeCast_self _ shapeCasts_S128x512_S128x512) j) ?_
  rw [broadcastTo_apply _ broadcasts_S128x1_S128x512 j (ix2 (n0 := 128) (n1 := 1) ⟨(j 0).val, hj⟩ 0) (fun a => match a with | ⟨0, _⟩ => rfl | ⟨1, _⟩ => rfl),
    extractStridedSlice_apply _ _ sl _ (ix2 (n0 := 128) (n1 := 16) ⟨(j 0).val, hj⟩ ⟨r, hr⟩)
      (fun a => match a with | ⟨0, _⟩ => (Nat.zero_add _).symm | ⟨1, _⟩ => rfl), column_apply]
  refine congrArg (fun k => FloatOps.mulf (s k) keepInv) ?_
  have e : (((Rect.unit (s := S2048x512) ![o, 0] S128x512.size inb).emb j) 0).val = 128 * r + (j 0).val := by
    show o + 1 * (j 0).val = _
    omega
  funext a
  match a with
  | ⟨0, _⟩ =>
    refine Fin.ext ?_
    show r = (((Rect.unit (s := S2048x512) ![o, 0] S128x512.size inb).emb j) 0).val / 128
    omega
  | ⟨1, _⟩ =>
    refine Fin.ext ?_
    show (j 0).val = (((Rect.unit (s := S2048x512) ![o, 0] S128x512.size inb).emb j) 0).val % 128
    omega

variable (d : Dev nD)

set_option maxHeartbeats 4000000 in
/-- The body from its three staging buffers: the data's and the numbers' are as they were, the result's holds the scaled block. -/
theorem scale_run (i : grid1.Coords) (M0 : Memref sig .tc .vmem S2048x512 .f32) (h0 : M0.IsWhole) (M1 : Memref sig .tc .vmem S16x128 .f32) (h1 : M1.IsWhole)
    (M2 : Memref sig .tc .vmem S2048x512 .f32) (h2 : M2.IsWhole) (x : S2048x512.Idx → F .f32) (s : S16x128.Idx → F .f32) (o : S2048x512.Idx → F .f32) :
    (iprop(owns (d.tc : Thread nD τ) M0 fullShare x ∗ owns (d.tc : Thread nD τ) M1 fullShare s ∗ owns (d.tc : Thread nD τ) M2 fullShare o) : sProp 𝕄)
      ⊢ wp frame (wpE (defs₀ (F := F)) 𝒱₀ (d.tc : Thread nD τ) none) Set.univ (cc1_body (F := F) i M0 h0 M1 h1 M2 h2) fun _ =>
        iprop(owns (d.tc : Thread nD τ) M0 fullShare x ∗ owns (d.tc : Thread nD τ) M1 fullShare s ∗ owns (d.tc : Thread nD τ) M2 fullShare (scaled x s)) := by
  unfold owns
  iintro ⟨⟨%f0, %e0, H0⟩, ⟨%f1, %e1, H1⟩, ⟨%f2, %e2, H2⟩⟩
  simp only [cc1_body_eq_skeleton]; unfold cc1_body_skel
  simp only [k1_part1_eq_skeleton, k1_part2_eq_skeleton, k1_part3_eq_skeleton]; unfold k1_part1_skel k1_part2_skel k1_part3_skel
  sl_exec
  sl_step
  have es : View.readAt (Elt F) M1.view (Rect.unit ![0, 0] S16x128.size inb_S16x128_S16x128_0_0).toLoadRect f1 = s := by
    rw [← e1]
    funext j
    refine congrArg (M1.view.read (Elt F) f1) (funext fun a => Fin.ext ?_)
    match a with
    | ⟨0, _⟩ => show 0 + 1 * (j 0).val = (j 0).val; omega
    | ⟨1, _⟩ => show 0 + 1 * (j 1).val = (j 1).val; omega
  isplitl [H0]
  · iexists f0; isplitr
    · ipureintro; exact e0
    · iexact H0
  isplitl [H1]
  · iexists f1; isplitr
    · ipureintro; exact e1
    · iexact H1
  iexists _; isplitr
  swap; · iexact H2
  ipureintro
  funext y
  have hy : (y 0).val < 2048 := (y 0).isLt
  have hy' : (y 1).val < 512 := (y 1).isLt
  subst e0
  rw [es]
  refine View.read_writes_apply_of_pieces M2.view f2 (scaled (M0.view.read (Elt F) f0) s) _ ?_ y ?_
  · simp only [List.forall_mem_cons, List.forall_mem_nil]
    exact ⟨strip_eq (r := 15) (by decide) rfl _ _ _ s, strip_eq (r := 14) (by decide) rfl _ _ _ s,
      strip_eq (r := 13) (by decide) rfl _ _ _ s, strip_eq (r := 12) (by decide) rfl _ _ _ s,
      strip_eq (r := 11) (by decide) rfl _ _ _ s, strip_eq (r := 10) (by decide) rfl _ _ _ s,
      strip_eq (r := 9) (by decide) rfl _ _ _ s, strip_eq (r := 8) (by decide) rfl _ _ _ s,
      strip_eq (r := 7) (by decide) rfl _ _ _ s, strip_eq (r := 6) (by decide) rfl _ _ _ s,
      strip_eq (r := 5) (by decide) rfl _ _ _ s, strip_eq (r := 4) (by decide) rfl _ _ _ s,
      strip_eq (r := 3) (by decide) rfl _ _ _ s, strip_eq (r := 2) (by decide) rfl _ _ _ s,
      strip_eq (r := 1) (by decide) rfl _ _ _ s, strip_eq (r := 0) (by decide) rfl _ _ _ s, fun _ h => absurd h List.not_mem_nil⟩
  · simp only [List.mem_cons, List.not_mem_nil, _root_.or_false, exists_eq_or_imp, exists_eq_left, Rect.mem_set_unit, Fin.forall_fin_two, Matrix.cons_val_zero, Matrix.cons_val_one]
    omega

end Cert.Proof.Run

end
-- ==== Proof.Region.lean ====
/-
  The TensorCore's part as a whole: entered with the data and the looked-up numbers in their arrays, the pipelined call
  leaves the result array holding every data row times its number times the named constant, and changes nothing else.
-/
module

public import proofs.«01_k».proof.Proof.Scale
public import Idealize.ShloMosaic.Lib.Pipeline.Frame
public import Idealize.ShloMosaic.Lib.Pipeline.Regions
public import Idealize.ShloMosaic.Lib.Pipeline.RegionArrays
public import Idealize.ShloMosaic.Lib.Pipeline.ValueKit

@[expose] public section

noncomputable section

namespace Cert.Proof.Run

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode
open Idealize.ShloMosaic.Pipeline (BodyObligation)

variable {F : FTy → Type}

local notation "𝕄" => MT nD τ sig (HIx 1) (Elt F) ℕ UU ℕ

variable [FloatOps F] [Named F]

/-- The data rows, each times its number times the constant: row `n`'s number is entry `n % 128` of row `n / 128`. -/
def scaledRows (x : S16384x512.Idx → F .f32) (s : S128x128.Idx → F .f32) : S16384x512.Idx → F .f32 := fun y =>
  FloatOps.mulf (x y) (FloatOps.mulf (s (ValueIdx.ix2 (n0 := 128) (n1 := 128) ⟨(y 0).val / 128, by have h : (y 0).val < 16384 := (y 0).isLt; omega⟩
    ⟨(y 0).val % 128, Nat.mod_lt _ (by decide)⟩)) keepInv)

variable (W : Dev nD → Valuation τ sig (Elt F))

/-- The arrays' contents after the call: the result's replaced, the others as they were. -/
def scaledVal (c : Dev nD) : Valuation τ sig (Elt F) :=
  Function.update (W c) (Proc.devRef .tc main_v4) (scaledRows (W c main_v2) (W c main_v3))

/-- The block of data rows at grid point `t`. -/
abbrev rowsAt (c : Dev nD) (t : Fin cfg1.N) : S2048x512.Idx → F .f32 := ((cfg1.win 0).blk t).view.read (Elt F) (W c main_v2)

/-- The block of numbers at grid point `t`. -/
abbrev numsAt (c : Dev nD) (t : Fin cfg1.N) : S16x128.Idx → F .f32 := ((cfg1.win 1).blk t).view.read (Elt F) (W c main_v3)

/-- What the pipelined call keeps: the two inputs' blocks as fetched, the result's block scaled, nothing owed. -/
def dat1 (c : Dev nD) : Pipeline.Dat τ (Elt F) (HIx 1) ℕ UU ℕ cfg1 c where
  A w := W c (Proc.devRef .tc (Pipeline.arrRef cfg1.spec w))
  after w t := match w with
    | ⟨0, _⟩ => rowsAt W c t
    | ⟨1, _⟩ => numsAt W c t
    | ⟨2, _⟩ => scaled (rowsAt W c t) (numsAt W c t)
  Φ _ := iprop(emp)
  q _ := fullShare
  owed _ := 0

/-- The call's windows are admissible. -/
abbrev adm : (p : Fin 1) → (pcfgs (F := F) p).Adm := fun p => (cfgs p).toPCfg_adm

/-- What the call keeps, as the family over the program's one pipelined call. -/
def pdats : (p : Fin 1) → (c : Dev nD) → Pipeline.Dat τ (Elt F) (HIx 1) ℕ UU ℕ (Pipeline.pin (pcfgs (F := F)) adm p) c
  | 0 => dat1 W

/-- At each grid point the window on the data holds that point's block of rows. -/
theorem before_rows (c : Dev nD) (t : Fin cfg1.N) (o : (cfg1.win 0).block.Idx → Elt F (cfg1.win 0).elt) :
    (dat1 W c).before 0 t o = rowsAt W c t := by
  unfold Pipeline.Dat.before; rw [if_pos (fetch1_0 t)]; rfl

/-- At each grid point the window on the numbers holds that point's block of numbers. -/
theorem before_nums (c : Dev nD) (t : Fin cfg1.N) (o : (cfg1.win 1).block.Idx → Elt F (cfg1.win 1).elt) :
    (dat1 W c).before 1 t o = numsAt W c t := by
  unfold Pipeline.Dat.before; rw [if_pos (fetch1_1 t)]; rfl

/-- At every grid point the body does what the pipelined call keeps. -/
theorem body_obligation (c : Dev nD) : BodyObligation (dat1 (F := F) W c) (defs₀ (F := F)) 𝒱₀ none Set.univ := fun t => by
  rw [bigSep_W1, bigSep_W1]
  rw [show (dat1 W c).Φ t.castSucc = iprop(emp) from rfl, show (dat1 W c).Φ t.succ = iprop(emp) from rfl,
    show (dat1 W c).owesAt none t.succ = (dat1 W c).owesAt none t.castSucc from rfl]
  iintro ⟨-, HO, ⟨%o0, H0⟩, ⟨%o1, H1⟩, ⟨%o2, H2⟩⟩
  rw [before_rows, before_nums]
  iapply (wp_wand_r frame _ Set.univ)
  isplitl [H0 H1 H2]
  · iapply (scale_run c (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (rowsAt W c t) (numsAt W c t) _)
    isplitl [H0]; · iexact H0
    isplitl [H1]; · iexact H1
    iexact H2
  iintro %_ ⟨H0, H1, H2⟩
  isplitr; · iempintro
  isplitl [HO]; · iexact HO
  isplitl [H0]; · iexact H0
  isplitl [H1]; · iexact H1
  iexact H2

/-- After the last grid point the result array holds the scaled rows. -/
theorem result_eq (c : Dev nD) : (dat1 (F := F) W c).arrAt 2 cfg1.N = scaledRows (W c main_v2) (W c main_v3) := by
  refine (dat1 W c).arrAt_eq_of_covers 2 _ (by decide +kernel) fun t hf y => ?_
  have hy : (y 0).val < 2048 := (y 0).isLt
  show FloatOps.mulf ((W c main_v2 : S16384x512.Idx → F .f32) ((win1_0.blk t).view.emb y))
      (FloatOps.mulf ((W c main_v3 : S128x128.Idx → F .f32) ((win1_1.blk t).view.emb (cellOf (y 0).val hy))) keepInv)
    = FloatOps.mulf ((W c main_v2 : S16384x512.Idx → F .f32) ((win1_2.blk t).view.emb y)) _
  refine congrArg₂ FloatOps.mulf (congrArg _ ?_) (congrArg (fun v => FloatOps.mulf v keepInv) (congrArg _ ?_))
  · funext a
    refine Fin.ext ?_
    match a with
    | ⟨0, _⟩ => blk_simp; rfl
    | ⟨1, _⟩ => blk_simp; rfl
  · funext a
    refine Fin.ext ?_
    match a with
    | ⟨0, _⟩ =>
      blk_simp
      show win1_2.index t 0 * 16 + (y 0).val / 128 = (win1_2.index t 0 * 2048 + (y 0).val) / 128
      omega
    | ⟨1, _⟩ =>
      blk_simp
      show 0 * 128 + (y 0).val % 128 = (win1_2.index t 0 * 2048 + (y 0).val) % 128
      omega

/-! ## The call as one step of the program -/

/-- Nothing is owed while the call runs, so its waits need no more than that the staging semaphores' level is the lowest. -/
theorem levels : Pipeline.LevelCut (pcfgs (F := F)) adm none (K (F := F)).L (K (F := F)).lev 0 (fun _ : Dev nD => 0) (fun _ => 0) where
  hι _ _ _ := Finset.mem_univ _
  hιb _ _ _ := le_of_eq rfl
  hD _ _ _ h := absurd h (lt_irrefl 0)

/-- The call, entered with its three arrays at `W` and left with them at `scaledVal W`. -/
def seg : Pipeline.RegionSeg (pcfgs (F := F)) adm (pdats W) none defs₀ 𝒱₀ (K (F := F)).L (K (F := F)).lev 0 :=
  Pipeline.RegionSeg.ofHeld (pcfgs (F := F)) adm (pdats W) none defs₀ 𝒱₀ (K (F := F)).L (K (F := F)).lev 0 (fun _ => 0)
    (fun _ => iprop(emp)) (fun _ => iprop(emp)) launch1.toP rfl (fun c => (body_obligation W c).loose) (fun _ _ => rfl) (fun _ => rfl)
    (fun c w => (pdats W 0 c).share_full (fun _ => rfl) w)
    (fun c => sep_elim_right) (fun c => by
      rw [show Pipeline.scopedRest (Pipeline.pin (pcfgs (F := F)) adm 0).spec c = _ from scopedRest1_eq c]
      iintro -
      isplitr <;> iempintro)
    (fun _ => 0) levels (fun _ => iprop(emp)) W (scaledVal W) (fun _ _ => rfl)
    (fun c w => match w with
      | ⟨0, _⟩ => ((dat1 W c).arrAt_in 0 rfl _).trans (Function.update_of_ne (show (Proc.devRef .tc main_v2 : DevRef τ sig) ≠ Proc.devRef .tc main_v4 by decide) _ _).symm
      | ⟨1, _⟩ => ((dat1 W c).arrAt_in 1 rfl _).trans (Function.update_of_ne (show (Proc.devRef .tc main_v3 : DevRef τ sig) ≠ Proc.devRef .tc main_v4 by decide) _ _).symm
      | ⟨2, _⟩ => (result_eq W c).trans (Function.update_self (Proc.devRef .tc main_v4) (scaledRows (W c main_v2) (W c main_v3)) (W c)).symm)

end Cert.Proof.Run

end
-- ==== Proof.Run.lean ====
/-
  The whole program on a device: the mask is laid out as a table, the vector subcores look the numbers up, the TensorCore
  scales the rows, and the result is laid out in the argument's shape. Every run ends, leaves the arguments as they were
  and every semaphore at zero, and leaves in the result array the one value stated here.
-/
module

public import proofs.«01_k».proof.Proof.Tile
public import proofs.«01_k».proof.Proof.Region

@[expose] public section

noncomputable section

namespace Cert.Proof.Run

open Cert.KernelIdeal Cert.KernelIdeal.Gen
open Idealize.ShloMosaic
open Idealize.ShloMosaic.TcCoe
open Idealize.ShloMosaic.SparseCore.Cfg (HIx Pay)
open Idealize.ShloMosaic.StableHlo (held held_sub_split held_congr wp_hlo_within)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F] [Named F]

/-! ## The pipelined call -/

/-- What the launch deals a device for the pipelined call. -/
abbrev dealt (d : Dev nD) : sProp 𝕄 :=
  iprop(Pipeline.cellsGhost (Pipeline.pin (pcfgs (F := F)) adm) EP 0 d ∗ Pipeline.toksInit (Pipeline.pin (pcfgs (F := F)) adm) EP 0 d)

/-- The pipelined call's three arrays are among the device's. -/
theorem region_sub : Pipeline.arrRefs (τ := τ) (pcfgs (F := F) 0).spec ⊆ ucRefs τ sig :=
  Pipeline.arrRefs_sub_ucRefs _ (show ∀ w, (Pipeline.arrRef spec1 w).isScoped = false by decide)

/-- The TensorCore's call of its pipeline. -/
abbrev call : Prog (TpuEff nD τ sig (Elt F) (ΛP (F := F)) .tc) PUnit := .op (.customCall (Pipeline.entry (0 : Fin 1)) ()) fun x => .ret x

/-- The pipelined call as a step of the device's program, from all the device's arrays at `W` to all of them at `scaledVal W`. -/
theorem region_run [∀ e, Nonempty (Elt F e)] (W : Dev nD → Valuation τ sig (Elt F)) (d : Dev nD) (Φ : PUnit → sProp 𝕄) :
    iprop((iprop(boundary (SparseCore.T d) ∗ held (SparseCore.T d) (ucRefs τ sig) (scaledVal W d) ∗ ∃ w, owes (SparseCore.T d) 0 w) -∗ Φ ⟨⟩)
        ∗ boundary (SparseCore.T d) ∗ held (SparseCore.T d) (ucRefs τ sig) (W d) ∗ (∃ w, owes (SparseCore.T d) 0 w) ∗ levAts (K (F := F)).L (K (F := F)).lev ∗ dealt d)
      ⊢ wp frame (wpE ((K (F := F)).defs (D (F := F))) 𝒱 (SparseCore.T d) none) Set.univ (SparseCore.liftProg (call (F := F))) Φ := by
  have hrest : (held (SparseCore.T d) (ucRefs τ sig \ Pipeline.arrRefs (pcfgs (F := F) 0).spec) (scaledVal W d) : sProp 𝕄)
      = held (SparseCore.T d) (ucRefs τ sig \ Pipeline.arrRefs (pcfgs (F := F) 0).spec) (W d) :=
    held_congr (SparseCore.T d) fun b hb => Function.update_of_ne (fun h => (Finset.mem_sdiff.mp hb).2 (by
      rw [h]
      exact Finset.mem_map.mpr ⟨main_v4, Finset.mem_image.mpr ⟨(2 : Fin 3), Finset.mem_univ _, rfl⟩, rfl⟩)) _ _
  rw [held_sub_split (SparseCore.T d) (region_sub (F := F)) (W d), held_sub_split (SparseCore.T d) (region_sub (F := F)) (scaledVal W d), hrest]
  iintro ⟨Hk, Hb, ⟨Ha, Hr⟩, HO, Hlev, Hg, Ht⟩
  iapply ((K (F := F)).wp_liftProg (D (F := F)) 𝒱 (SparseCore.T d) Set.univ none call Φ)
  iapply (Pipeline.RegionSeg.wp (pcfgs (F := F)) adm (pdats W) none cellOf_inj EP defs₀ 𝒱₀ (K (F := F)).L (K (F := F)).lev (seg W) d none
    (fun u h => absurd h (Option.not_mem_none u)) (fun x => .ret x) Φ)
  isplitl [Hk Hr]
  · iintro ⟨Hb, Hpost⟩
    rw [wp_ret]
    imodintro
    iapply Hk
    ihave Hpost := (show (seg W).post d ⊢ iprop(held (SparseCore.T d) (Pipeline.arrRefs (pcfgs (F := F) 0).spec) (scaledVal W d) ∗ emp ∗ emp ∗ ∃ w, owes (SparseCore.T d) 0 w) from .rfl) $$ Hpost
    icases Hpost with ⟨Ha, -, -, HO⟩
    isplitl [Hb]; · iexact Hb
    isplitl [Ha Hr]
    · isplitl [Ha]; · iexact Ha
      iexact Hr
    iexact HO
  isplitl [Hb]; · iexact Hb
  isplitl [Ha HO]
  · iapply (show iprop(held (SparseCore.T d) (Pipeline.arrRefs (pcfgs (F := F) 0).spec) (W d) ∗ emp ∗ emp ∗ ∃ w, owes (SparseCore.T d) 0 w) ⊢ (seg W).pre d from .rfl)
    isplitl [Ha]; · iexact Ha
    isplitr; · iempintro
    isplitr; · iempintro
    iexact HO
  isplitl [Hlev]; · iexact Hlev
  isplitl [Hg]; · iexact Hg
  iexact Ht

/-! ## The arrays through the program -/

abbrev opTable : HloOp τ sig (Elt F) := StableHlo.reshape main_arg2 main_v0 (rfl : (.f32 : EltTy) = .f32) shapeCasts_S8x16x1_S128
abbrev opRows : HloOp τ sig (Elt F) := StableHlo.reshape main_arg0 main_v2 (rfl : (.f32 : EltTy) = .f32) shapeCasts_S8x2048x512_S16384x512
abbrev opNums : HloOp τ sig (Elt F) := StableHlo.reshape main_v1 main_v3 (rfl : (.f32 : EltTy) = .f32) shapeCasts_S16384_S128x128
abbrev opBack : HloOp τ sig (Elt F) := StableHlo.reshape main_v4 main_v5 (rfl : (.f32 : EltTy) = .f32) shapeCasts_S16384x512_S8x2048x512

/-- The arrays at launch, -/
def V0 (d : Dev nD) : Valuation τ sig (Elt F) := fun b => m (d, b)
/-- with the table laid out, -/
def V1 (d : Dev nD) : Valuation τ sig (Elt F) := (opTable (F := F)).result (V0 m d)
/-- with the numbers looked up, -/
def V2 (d : Dev nD) : Valuation τ sig (Elt F) := Function.update (V1 m d) (Proc.devRef .tc main_v1) (result m d)
/-- with the data as rows and the numbers as the TensorCore reads them, -/
def V3 (d : Dev nD) : Valuation τ sig (Elt F) := (opNums (F := F)).result ((opRows (F := F)).result (V2 m d))
/-- with the rows scaled and laid out as the result. -/
def V4 (d : Dev nD) : Valuation τ sig (Elt F) := (opBack (F := F)).result (scaledVal (V3 m) d)

/-- The result: the data as rows, each times its looked-up number times the constant, in the argument's shape. -/
def output (d : Dev nD) : S8x2048x512.Idx → F .f32 :=
  shapeCast S8x2048x512 (scaledRows (shapeCast S16384x512 (m (xLoc d) : S8x2048x512.Idx → F .f32) shapeCasts_S8x2048x512_S16384x512)
    (shapeCast S128x128 (gathered (table m d) (m (iLoc d))) shapeCasts_S16384_S128x128)) shapeCasts_S16384x512_S8x2048x512

/-- After the first layout the table array holds the table. -/
theorem V1_table (d : Dev nD) : V1 m d main_v0 = tabBuf m d := StableHlo.reshape_result ..

/-- The first layout changes no other array. -/
theorem V1_of_ne (d : Dev nD) (r : Ref sig .tc) (h : r ≠ main_v0) : V1 m d r = m ((SparseCore.T d).loc r) := StableHlo.reshape_result_ne (h := h) ..

/-- The vector subcores change no array but that of the looked-up numbers, -/
theorem V2_of_ne (d : Dev nD) (r : Ref sig .tc) (h : (Proc.devRef .tc r : DevRef τ sig) ≠ Proc.devRef .tc main_v1) : V2 m d r = V1 m d r :=
  Function.update_of_ne h _ _

/-- which then holds the looked-up numbers. -/
theorem V2_nums (d : Dev nD) : V2 m d main_v1 = result m d := Function.update_self ..

/-- Before the pipelined call the data stands laid out as rows -/
theorem V3_rows (d : Dev nD) :
    V3 m d main_v2 = shapeCast S16384x512 (m (xLoc d) : S8x2048x512.Idx → F .f32) shapeCasts_S8x2048x512_S16384x512 := by
  unfold V3
  rw [StableHlo.reshape_result_ne (h := by decide), StableHlo.reshape_result, V2_of_ne m d main_arg0 (by decide), V1_of_ne m d main_arg0 (by decide)]
  rfl

/-- and the looked-up numbers as a square. -/
theorem V3_nums (d : Dev nD) : V3 m d main_v3 = shapeCast S128x128 (gathered (table m d) (m (iLoc d))) shapeCasts_S16384_S128x128 := by
  unfold V3
  rw [StableHlo.reshape_result, StableHlo.reshape_result_ne (h := by decide), V2_nums]
  rfl

/-- After the last layout the result array holds the result. -/
theorem V4_output (d : Dev nD) : V4 m d main_v5 = output m d := by
  unfold V4 output
  rw [StableHlo.reshape_result, ← V3_rows, ← V3_nums, show scaledVal (V3 m) d main_v4 = scaledRows (V3 m d main_v2) (V3 m d main_v3) from Function.update_self ..]
  rfl

/-- An array that no step writes is as it was at launch. -/
theorem V4_of_ne (d : Dev nD) (r : Ref sig .tc) (h0 : r ≠ main_v0) (h1 : (Proc.devRef .tc r : DevRef τ sig) ≠ Proc.devRef .tc main_v1) (h2 : r ≠ main_v2)
    (h3 : r ≠ main_v3) (h4 : (Proc.devRef .tc r : DevRef τ sig) ≠ Proc.devRef .tc main_v4) (h5 : r ≠ main_v5) : V4 m d r = m ((SparseCore.T d).loc r) := by
  unfold V4
  rw [StableHlo.reshape_result_ne (h := h5), show scaledVal (V3 m) d r = V3 m d r from Function.update_of_ne h4 _ _]
  unfold V3
  rw [StableHlo.reshape_result_ne (h := h3), StableHlo.reshape_result_ne (h := h2), V2_of_ne m d r h1, V1_of_ne m d r h0]

/-! ## The look-up's arrays -/

/-- The arrays that the look-up is handed: the indices, the table and the numbers. -/
abbrev S3 : Finset (DevRef τ sig) := {Proc.devRef .tc main_arg1, Proc.devRef .tc main_v0, Proc.devRef .tc main_v1}

/-- They are among the device's arrays. -/
theorem S3_sub : S3 ⊆ ucRefs τ sig := by decide

/-- Holding them together is holding each of them. -/
theorem held_S3 (d : Dev nD) (W : Valuation τ sig (Elt F)) :
    (held (SparseCore.T d) S3 W : sProp 𝕄) = iprop((iLoc d ↦{fullShare} W main_arg1) ∗ (tLoc d ↦{fullShare} W main_v0) ∗ sLoc d ↦{fullShare} W main_v1) := by
  unfold held S3
  rw [SparseCore.bigSep_insert' (by decide), SparseCore.bigSep_insert' (by decide), bigSep_singleton]

/-- Before the look-up: what the tasks are handed, beside the rest. -/
theorem before_eq (d : Dev nD) :
    (held (SparseCore.T d) (ucRefs τ sig) (V1 m d) : sProp 𝕄)
      = iprop((bigSep Finset.univ fun c : Fin ((K (F := F)).nCore 0) => (P m).st 0 d c) ∗ held (SparseCore.T d) (ucRefs τ sig \ S3) (V1 m d)) := by
  rw [held_sub_split (SparseCore.T d) S3_sub (V1 m d), held_S3, V1_of_ne m d main_arg1 (by decide), V1_of_ne m d main_v1 (by decide), V1_table]
  exact congrArg (fun A : sProp 𝕄 => iprop(A ∗ held (SparseCore.T d) (ucRefs τ sig \ S3) (V1 m d)))
    ((tiles_eq m d (m (sLoc d))).trans (tasks_eq (F := F) fun w => tile m d w (m (sLoc d))).symm)

/-- After the look-up: what the tasks hand back, beside the rest. -/
theorem after_eq (d : Dev nD) :
    (held (SparseCore.T d) (ucRefs τ sig) (V2 m d) : sProp 𝕄)
      = iprop((bigSep Finset.univ fun c : Fin ((K (F := F)).nCore 0) => (P m).dn 0 d c) ∗ held (SparseCore.T d) (ucRefs τ sig \ S3) (V1 m d)) := by
  have hrest : (held (SparseCore.T d) (ucRefs τ sig \ S3) (V2 m d) : sProp 𝕄) = held (SparseCore.T d) (ucRefs τ sig \ S3) (V1 m d) :=
    held_congr (SparseCore.T d) fun b hb => Function.update_of_ne (fun h => (Finset.mem_sdiff.mp hb).2 (by
      rw [h]
      exact Finset.mem_insert_of_mem (Finset.mem_insert_of_mem (Finset.mem_singleton_self _)))) _ _
  rw [held_sub_split (SparseCore.T d) S3_sub (V2 m d), hrest, held_S3, V2_nums, V2_of_ne m d main_arg1 (by decide), V2_of_ne m d main_v0 (by decide),
    V1_of_ne m d main_arg1 (by decide), V1_table]
  exact congrArg (fun A : sProp 𝕄 => iprop(A ∗ held (SparseCore.T d) (ucRefs τ sig \ S3) (V1 m d)))
    ((tiles_eq m d (result m d)).trans (tasks_eq (F := F) fun w => tile m d w (result m d)).symm)

/-! ## The ghost state at launch -/

/-- The launch element: the handshakes', the pipelined call's and the copies' counters'. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- Any number of empty holdings is an empty one. -/
theorem nothing_kept {I : Type} (s : Finset I) : (bigSep s fun _ => iprop(emp)) = (iprop(emp) : sProp 𝕄) := bigSep_emp_const s

/-- The launch element is the handshakes' state and what each device is dealt for the pipelined call. -/
theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HP⟩
  ihave HP := (show BI.own (embR ((initOf (Pipeline.cells (Pipeline.pin (pcfgs (F := F)) adm) cellOf_inj) (Pipeline.launchToks (Pipeline.pin (pcfgs (F := F)) adm) cellOf_inj), 1) : UK × Counters))
      ⊢ (BI.own (EP (initOf (Pipeline.cells (Pipeline.pin (pcfgs (F := F)) adm) cellOf_inj) (Pipeline.launchToks (Pipeline.pin (pcfgs (F := F)) adm) cellOf_inj))) : sProp 𝕄) from .rfl) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (show (bigSep Finset.univ fun d : Dev nD => bigSep Finset.univ fun p => (Pipeline.cellsGhost (Pipeline.pin (pcfgs (F := F)) adm) EP p d : sProp 𝕄))
        = bigSep Finset.univ fun d : Dev nD => Pipeline.cellsGhost (Pipeline.pin (pcfgs (F := F)) adm) EP 0 d from bigSep_congr fun _ _ => bigSep_univ_of_subsingleton (0 : Fin 1)))
      iexact Hg
    · iapply (Entails.of_eq (show (bigSep Finset.univ fun d : Dev nD => bigSep Finset.univ fun p => (Pipeline.toksInit (Pipeline.pin (pcfgs (F := F)) adm) EP p d : sProp 𝕄))
        = bigSep Finset.univ fun d : Dev nD => Pipeline.toksInit (Pipeline.pin (pcfgs (F := F)) adm) EP 0 d from bigSep_congr fun _ _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_kept]
  iempintro

/-! ## The program on a device's TensorCore -/

variable (ρ : Dev nD → PrngReg)

/-- The result array. -/
abbrev yLoc (d : Dev nD) : Loc nD τ sig := (SparseCore.T d).loc main_v5

/-- What a device ends with: its arguments as at launch, and the result. -/
abbrev FIN (d : Dev nD) : sProp 𝕄 :=
  iprop((xLoc d ↦{fullShare} m (xLoc d)) ∗ (iLoc d ↦{fullShare} m (iLoc d)) ∗ (gLoc d ↦{fullShare} m (gLoc d)) ∗ yLoc d ↦{fullShare} output m d)

/-- The arrays that the claims read at the end. -/
abbrev S4 : Finset (DevRef τ sig) := {Proc.devRef .tc main_arg0, Proc.devRef .tc main_arg1, Proc.devRef .tc main_arg2, Proc.devRef .tc main_v5}

/-- They are among the device's arrays. -/
theorem S4_sub : S4 ⊆ ucRefs τ sig := by decide

/-- Held at their last contents they are what a device ends with. -/
theorem final_eq (d : Dev nD) : (held (SparseCore.T d) S4 (V4 m d) : sProp 𝕄) = FIN m d := by
  unfold held S4
  rw [SparseCore.bigSep_insert' (by decide), SparseCore.bigSep_insert' (by decide), SparseCore.bigSep_insert' (by decide), bigSep_singleton,
    V4_of_ne m d main_arg0 (by decide) (by decide) (by decide) (by decide) (by decide) (by decide),
    V4_of_ne m d main_arg1 (by decide) (by decide) (by decide) (by decide) (by decide) (by decide),
    V4_of_ne m d main_arg2 (by decide) (by decide) (by decide) (by decide) (by decide) (by decide), V4_output]

/-- After the look-up the TensorCore owes nothing; what its waits were recorded at does not matter any more. -/
theorem owes_free (d : Dev nD) :
    ((K (F := F)).tcSt EH d 1 : sProp 𝕄) ⊢ iprop((∃ w, owes (SparseCore.T d) 0 w) ∗ ((∃ w, owes (SparseCore.T d) 0 w) -∗ (K (F := F)).tcSt EH d 1)) := by
  unfold SparseCore.Cfg.tcSt
  rw [(K (F := F)).Otc_end d (le_refl 1)]
  iintro ⟨⟨%w, -, HO⟩, Hrest⟩
  isplitl [HO]; · iexists w; iexact HO
  iintro ⟨%w', HO⟩
  isplitl [HO]
  · iexists w'; isplitr
    · ipureintro
      intro p _
      match p.2 with
      | none => exact Nat.zero_le _
      | some q =>
        refine ((K (F := F)).lev_some_le _ q).trans ?_
        have h : q.val = 0 := by omega
        rw [h]
        decide
    iexact HO
  iexact Hrest

/-- The program, from what the launch deals a device to what it ends with. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from unscopedBufs_held d (V0 m d)]
  simp only [main, wp_bind, wp_pure]
  iintro ⟨#Hctx, Hst, ⟨Hb, Hu, Hts, -⟩, HG⟩
  iapply (wp_hlo_within 𝒱 (SparseCore.T d) none Set.univ (op := opTable) (S := ucRefs τ sig) (sub_ucRefs _ (StableHlo.reshape_bufs_sub ..)) (V := V0 m d)) $$ [Hb Hu]
  · isplitl [Hb] <;> iassumption
  iintro ⟨Hb, Hu⟩
  rw [wp_ret]; imodintro
  ihave Hu := (show held (SparseCore.T d) (ucRefs τ sig) ((opTable (F := F)).result (V0 m d)) ⊢ (_ : sProp 𝕄) from Entails.of_eq (before_eq m d)) $$ Hu
  icases Hu with ⟨Hc, Hu⟩
  iapply ((K (F := F)).wp_run (D (F := F)) 𝒱 (EH := EH) (P := P m) κ d 0) $$ [Hst Hc Hb Hu Hts HG]
  isplitr; · iexact Hctx
  isplitl [Hst]; · iexact Hst
  isplitl [Hc]; · iexact Hc
  iintro ⟨Hst, Hc⟩
  ihave Hu := (Entails.of_eq (after_eq m d).symm) $$ [Hc Hu]
  · isplitl [Hc] <;> iassumption
  iapply (wp_hlo_within 𝒱 (SparseCore.T d) none Set.univ (op := opRows) (S := ucRefs τ sig) (sub_ucRefs _ (StableHlo.reshape_bufs_sub ..)) (V := V2 m d)) $$ [Hb Hu]
  · isplitl [Hb] <;> iassumption
  iintro ⟨Hb, Hu⟩
  rw [wp_ret]; imodintro
  iapply (wp_hlo_within 𝒱 (SparseCore.T d) none Set.univ (op := opNums) (S := ucRefs τ sig) (sub_ucRefs _ (StableHlo.reshape_bufs_sub ..)) (V := (opRows (F := F)).result (V2 m d))) $$ [Hb Hu]
  · isplitl [Hb] <;> iassumption
  iintro ⟨Hb, Hu⟩
  rw [wp_ret]; imodintro
  ihave Hu := (show held (SparseCore.T d) (ucRefs τ sig) ((opNums (F := F)).result ((opRows (F := F)).result (V2 m d))) ⊢ (held (SparseCore.T d) (ucRefs τ sig) (V3 m d) : sProp 𝕄) from .rfl) $$ Hu
  ihave Hst := (show (K (F := F)).tcSt EH d ((0 : Fin 1).val + 1) ⊢ (_ : sProp 𝕄) from owes_free d) $$ Hst
  icases Hst with ⟨HO, Hst⟩
  iapply (region_run (V3 m) d)
  isplitr [Hb Hu HO HG]
  · iintro ⟨Hb, Hu, HO⟩
    iapply (wp_hlo_within 𝒱 (SparseCore.T d) none Set.univ (op := opBack) (S := ucRefs τ sig) (sub_ucRefs _ (StableHlo.reshape_bufs_sub ..)) (V := scaledVal (V3 m) d)) $$ [Hb Hu]
    · isplitl [Hb] <;> iassumption
    iintro ⟨Hb, Hu⟩
    rw [wp_ret]; imodintro; imodintro
    ihave Hu := (show held (SparseCore.T d) (ucRefs τ sig) ((opBack (F := F)).result (scaledVal (V3 m) d)) ⊢ (_ : sProp 𝕄) from Entails.of_eq ((held_sub_split (SparseCore.T d) S4_sub (V4 m d)).trans (congrArg (fun A : sProp 𝕄 => iprop(A ∗ held (SparseCore.T d) (ucRefs τ sig \ S4) (V4 m d))) (final_eq m d)))) $$ Hu
    icases Hu with ⟨Hf, -⟩
    isplitl [Hst HO]
    · iapply Hst; iexact HO
    isplitl [Hf]; · iexact Hf
    isplitl [Hb] <;> iassumption
  isplitl [Hb]; · iexact Hb
  isplitl [Hu]; · iexact Hu
  isplitl [HO]; · iexact HO
  isplitr; · iapply (SparseCore.Cfg.ctx_levAts κ); iexact Hctx
  iexact HG

/-! ## The run -/

/-- What a device's final memory says. -/
def fq (d : Dev nD) (s' : Phys nD τ sig (Elt F)) : Prop :=
  s'.mem.mem (yLoc d) = output m d ∧ s'.mem.mem (xLoc d) = m (xLoc d) ∧ s'.mem.mem (iLoc d) = m (iLoc d) ∧ s'.mem.mem (gLoc d) = m (gLoc d)

set_option maxRecDepth 16384 in
/-- A final memory agrees with what the device then holds. -/
theorem hfin (d : Dev nD) (s' : Phys nD τ sig (Elt F)) : iprop(FIN m d ∗ SI s') ⊢ (⌜fq m d s'⌝ : sProp 𝕄) := by
  iintro ⟨⟨Hx, Hi, Hg, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h3, HSI, -⟩
  ihave H := (SI_pointsTo_agree (st := s') (ℓ := yLoc d) (I := Finset.univ) (q := fullShare) (f := output m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- What the whole run ends with: on every device the result and the unchanged arguments, and every semaphore at zero. -/
def QC : PUnit × MemSt nD τ sig (Elt F) → Prop := fun r =>
  (∀ c : Dev nD, r.2.mem (yLoc c) = output m c ∧ r.2.mem (xLoc c) = m (xLoc c) ∧ r.2.mem (iLoc c) = m (iLoc c) ∧ r.2.mem (gLoc c) = m (gLoc c))
    ∧ r.2.sem = fun _ => 0

/-- Every run of the program from a memory whose indices name mask rows ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => dealt d) (FIN m) (u₀ (F := F)) (sep_elim_left.trans (hu₀ m)) (hmain m ρ) (fq m) (hfin m) (QC m) (fun _ h hz => ⟨h, hz⟩)

end Cert.Proof.Run

end
-- ==== Proof.Range.lean ====
/-
  The precondition read at one element: if the launch memory satisfies it, every index names one of the sixteen mask rows.
-/
module

public import proofs.«01_k».proof.Proof.Setup
public import proofs.«01_k».proof.Proof.Gen.Pre_in_range
public import Idealize.ShloMosaic.Lib.ReduceAll

@[expose] public section

noncomputable section

namespace Cert.Proof.Range

open Idealize.ShloMosaic

/-- The precondition's array has one element. -/
instance onlyElement : Subsingleton Cert.Pre_in_range.S_.Idx := ⟨fun a b => funext fun i => i.elim0⟩

/-- Two truth values written as one-bit words have the conjunction's word for their bitwise and. -/
theorem bit_and (a b : Bool) : IntOp.andi (BitVec.ofBool a) (BitVec.ofBool b) = BitVec.ofBool (a && b) := by
  cases a <;> cases b <;> rfl

/-- The word of a truth value is one exactly where it is true. -/
theorem bit_one (a : Bool) : BitVec.ofBool a = 1#1 ↔ a = true := by cases a <;> decide

/-- A word that is, read signed, at least zero and less than sixteen is less than sixteen read unsigned. -/
theorem word_range (w : BitVec 32) (h : IntOp.andi (IntOp.cmpi .sge w 0#32) (IntOp.cmpi .slt w 16#32) = 1#1) : w.toNat < 16 := by
  have hw := w.isLt
  simp only [IntOp.cmpi, bit_and, bit_one, Bool.and_eq_true, BitVec.sle_eq_decide, BitVec.slt_eq_decide, decide_eq_true_eq,
    BitVec.toInt_eq_toNat_cond, BitVec.toNat_ofNat, Nat.reducePow, Nat.reduceMod] at h
  omega

/-- Where the precondition's function is true, every index is less than sixteen. -/
theorem fn_range [Cert.Pre_in_range.Facts] {F : FTy → Type} [FloatOps F] (x : FVec F Cert.Pre_in_range.S8x2048x512 .f32)
    (ix : IVec Cert.Pre_in_range.S8x2048 32) (g : FVec F Cert.Pre_in_range.S8x16x1 .f32)
    (h : Cert.Pre_in_range.fn (F := F) x ix g = fun _ => 1#1) (j : Cert.Pre_in_range.S8x2048.Idx) : (ix j).toNat < 16 :=
  word_range (ix j) (Host.reduce_andi_all _ _ _ _ (fun i => i.elim0) (congrFun h (fun i => i.elim0)) j)

end Cert.Proof.Range

end
-- ==== Proof.Words.lean ====
/-
  The kernel as written, on 32-bit words: its program and its idealization's, read at words with the named constant standing
  for its own bit pattern, are one program. So the run proved for the idealization over any float values is also the run of
  the kernel as written.
-/
module

public import proofs.«01_k».proof.Proof.Run
public import proofs.«01_k».proof.Proof.Range
public import proofs.«01_k».proof.Proof.Gen.Kernel

@[expose] public section

set_option maxRecDepth 65536

noncomputable section

namespace Cert.Proof.Words

open Idealize.ShloMosaic Idealize.SL.Sem

/-- At words a named constant stands for its own bit pattern. -/
@[reducible] def wordNamed : Named Bits := ⟨fun _ _ {φ} b => Scalar.ofBits φ b⟩

attribute [local instance] wordNamed

local instance : Cert.Kernel.Facts := Cert.Kernel.Gen.facts
local instance : Cert.KernelIdeal.Facts := Cert.KernelIdeal.Gen.facts

/-- The two programs' first TensorCore function is one. -/
theorem tc_first (a) : Cert.Kernel.defs₀ (F := Bits) .tc 0 a = Cert.KernelIdeal.defs₀ (F := Bits) .tc 0 a := rfl

/-- The two programs' scaling step is one. -/
theorem tc_second (t s) : Cert.Kernel.defs₀ (F := Bits) .tc 1 (t, s) = Cert.KernelIdeal.defs₀ (F := Bits) .tc 1 (t, s) := rfl

/-- The two programs' first scalar-subcore function is one. -/
theorem scalar_first (c a) : Cert.Kernel.defs₀ (F := Bits) (.scScalar c) 0 a = Cert.KernelIdeal.defs₀ (F := Bits) (.scScalar c) 0 a := rfl

/-- The two programs' second scalar-subcore function is one. -/
theorem scalar_second (c a) : Cert.Kernel.defs₀ (F := Bits) (.scScalar c) 1 a = Cert.KernelIdeal.defs₀ (F := Bits) (.scScalar c) 1 a := rfl

/-- The two programs' look-up task is one. -/
theorem vector_first (c s a) :
    Cert.Kernel.defs₀ (F := Bits) (.scVector c s) 0 a = Cert.KernelIdeal.defs₀ (F := Bits) (.scVector c s) 0 a := rfl

/-- The two programs' second vector-subcore function is one. -/
theorem vector_second (c s a) :
    Cert.Kernel.defs₀ (F := Bits) (.scVector c s) 1 a = Cert.KernelIdeal.defs₀ (F := Bits) (.scVector c s) 1 a := rfl

/-- The two programs' kernel functions are the same on every processor. -/
theorem kernels_eq : Cert.Kernel.defs₀ (F := Bits) = Cert.KernelIdeal.defs₀ (F := Bits) := by
  funext p l a
  match p, l, a with
  | .tc, 0, a => exact tc_first a
  | .tc, 1, (t, s) => exact tc_second t s
  | .scScalar c, 0, a => exact scalar_first c a
  | .scScalar c, 1, a => exact scalar_second c a
  | .scVector c s, 0, a => exact vector_first c s a
  | .scVector c s, 1, a => exact vector_second c s a

/-- So are all their functions, -/
theorem defs_eq : Cert.Kernel.defs (F := Bits) = Cert.KernelIdeal.defs (F := Bits) :=
  congrArg (fun D => Cert.KernelIdeal.sc.defs (Pipeline.defs Cert.KernelIdeal.pcfgs D)) kernels_eq

/-- and what their threads run. -/
theorem threads_eq : Cert.Kernel.threads (F := Bits) = Cert.KernelIdeal.threads (F := Bits) := rfl

/-- Every run of the kernel as written from a memory whose indices name mask rows ends with the result, the arguments
    unchanged and every semaphore at zero. -/
theorem run (m : (ℓ : Loc Cert.KernelIdeal.nD Cert.KernelIdeal.τ Cert.KernelIdeal.sig) → Buf (Elt Bits) ℓ)
    (ρ : Dev Cert.KernelIdeal.nD → PrngReg) (hpre : Run.PreOK m) :
    θ_run (Cert.Kernel.defs (F := Bits)) (Cert.Kernel.threads (F := Bits)) ⟨m, fun _ => 0, ρ⟩ (Run.QC m) := by
  rw [defs_eq, threads_eq]
  exact Run.run_main (F := Bits) m ρ hpre

/-- The kernel as written runs to its end without a fault, leaves its arguments as they were and every semaphore at zero. -/
theorem frame [Cert.Pre_in_range.Facts] : Cert.quiescent_Kernel := fun m ρ hpre =>
  (θ_run _ _ _).mono (fun _ h => ⟨fun c => (h.1 c).2, h.2⟩)
    (run m ρ (fun d j => Range.fn_range (F := Bits) _ _ _ (hpre d) j))

end Cert.Proof.Words

end
-- ==== Proof.Lookup.lean ====
/-
  The reference's numbers read at one place. The reference adds sixteen to a negative index, looks the mask up at the
  index it then has, and keeps what it found only where that index is in range. Where every index is in range to start
  with, it finds the mask's entry at the index itself.
-/
module

public import proofs.«01_k».proof.Proof.Gen.ReferenceIdeal
public import Idealize.ShloMosaic.Lib.ReduceAll
public import Idealize.ShloMosaic.Lib.ValueIdxCore
public import Idealize.ShloMosaic.Lib.Pipeline.Value

@[expose] public section

noncomputable section

namespace Cert.Proof.Lookup

open Cert.ReferenceIdeal Cert.ReferenceIdeal.Gen
open Idealize.ShloMosaic
open Idealize.ShloMosaic.ValueIdx (ix1 ix2 ix3)

/-- The indices with a last axis of one element. -/
abbrev column (ix : IVec S8x2048 32) : IVec S8x2048x1 32 := broadcastInDim S8x2048x1 ![0, 1] bcast_S8x2048_S8x2048x1_0_1 ix

/-- One number at every place of that shape. -/
abbrev everywhere (w : BitVec 32) : IVec S8x2048x1 32 := broadcastInDim S8x2048x1 ![] bcast_S_S8x2048x1 (constantI S_ 32 w)

/-- The indices after sixteen is added to the negative ones. -/
abbrev wrapped (ix : IVec S8x2048 32) : IVec S8x2048x1 32 :=
  select (cmpi .slt (column ix) (everywhere 0#32)) (addi (column ix) (everywhere 16#32)) (column ix)

/-- Where an index is, after that, from zero to fifteen. -/
abbrev inside (ix : IVec S8x2048 32) : IVec S8x2048x1 1 :=
  andi (cmpi .sge (wrapped ix) (everywhere 0#32)) (cmpi .sle (wrapped ix)
    (broadcastInDim S8x2048x1 ![0, 1, 2] bcast_S1x1x1_S8x2048x1_0_1_2 (broadcastInDim S1x1x1 ![2] bcast_S1_S1x1x1_2 (constantI S1 32 15#32))))

/-- What the reference keeps of the look-up, with a filler in place of the rest. -/
abbrev kept {α : Type} (ix : IVec S8x2048 32) (g : S8x16x1.Idx → α) (fill : S8x2048x1.Idx → α) : S8x2048x1.Idx → α :=
  select (broadcastInDim S8x2048x1 ![0, 1] bcast_S8x2048_S8x2048x1_0_1
    (Host.reduce IntOp.andi (inside ix) (constantI S_ 1 1#1) reducesTo_S8x2048x1_S8x2048_d2 h_S_))
    (Host.gather gather_S8x16x1_S8x2048x1_S8x2048x1_2_1_0_0_1_2_111 g (wrapped ix)) fill

/-- The batch of the place `y`. -/
abbrev batch (y : S8x2048x1.Idx) : Fin 8 := ⟨(y 0).val, (y 0).isLt⟩

/-- The place in the index array that the place `y` reads. -/
abbrev place (y : S8x2048x1.Idx) : S8x2048.Idx := ix2 (n0 := 8) (n1 := 2048) (batch y) ⟨(y 1).val, (y 1).isLt⟩

/-- The column reads the index array. -/
theorem column_at (ix : IVec S8x2048 32) (y : S8x2048x1.Idx) : column ix y = ix (place y) :=
  broadcastInDim_apply _ _ ix y (place y) (fun a => match a with | ⟨0, _⟩ => rfl | ⟨1, _⟩ => rfl)

/-- A word below sixteen is not negative. -/
theorem not_negative (w : BitVec 32) (h : w.toNat < 16) : IntOp.cmpi .slt w 0#32 = 0#1 := by
  have : BitVec.slt w 0#32 = false := by
    rw [BitVec.slt_eq_decide, decide_eq_false_iff_not, BitVec.toInt_eq_toNat_cond, BitVec.toInt_eq_toNat_cond]
    simp only [BitVec.toNat_ofNat, Nat.reducePow, Nat.reduceMod]
    omega
  simp only [IntOp.cmpi, this]
  rfl

/-- A word below sixteen is from zero to fifteen. -/
theorem from_zero_to_fifteen (w : BitVec 32) (h : w.toNat < 16) :
    IntOp.andi (IntOp.cmpi .sge w 0#32) (IntOp.cmpi .sle w 15#32) = 1#1 := by
  have h0 : BitVec.sle 0#32 w = true := by
    rw [BitVec.sle_eq_decide, decide_eq_true_eq, BitVec.toInt_eq_toNat_cond, BitVec.toInt_eq_toNat_cond]
    simp only [BitVec.toNat_ofNat, Nat.reducePow, Nat.reduceMod]
    omega
  have h1 : BitVec.sle w 15#32 = true := by
    rw [BitVec.sle_eq_decide, decide_eq_true_eq, BitVec.toInt_eq_toNat_cond, BitVec.toInt_eq_toNat_cond]
    simp only [BitVec.toNat_ofNat, Nat.reducePow, Nat.reduceMod]
    omega
  simp only [IntOp.cmpi, h0, h1]
  decide

variable (ix : IVec S8x2048 32) (hix : ∀ j, (ix j).toNat < 16)
include hix

/-- An index in range is not changed. -/
theorem wrapped_at (y : S8x2048x1.Idx) : wrapped ix y = ix (place y) := by
  show Scalar.select (IntOp.cmpi .slt (column ix y) 0#32) _ (column ix y) = _
  rw [column_at, not_negative _ (hix _)]
  rfl

/-- Every index is inside. -/
theorem inside_at (y : S8x2048x1.Idx) : inside ix y = 1#1 := by
  show IntOp.andi (IntOp.cmpi .sge (wrapped ix y) 0#32) (IntOp.cmpi .sle (wrapped ix y) 15#32) = 1#1
  rw [wrapped_at ix hix]
  exact from_zero_to_fifteen _ (hix _)

/-- The look-up finds, at every place, the mask's entry of that batch at the index. -/
theorem found_at {α : Type} (g : S8x16x1.Idx → α) (y : S8x2048x1.Idx) :
    Host.gather gather_S8x16x1_S8x2048x1_S8x2048x1_2_1_0_0_1_2_111 g (wrapped ix) y
      = g (ix3 (n0 := 8) (n1 := 16) (n2 := 1) (batch y) ⟨(ix (place y)).toNat, hix _⟩ 0) := by
  have hy2 : (y 2).val = 0 := Nat.lt_one_iff.1 (y 2).isLt
  unfold Host.gather
  refine congrArg g (funext fun a => Fin.ext ?_)
  show GatherDims.start _ y (wrapped ix) a + GatherDims.batchCoord _ y a + GatherDims.offCoord _ y a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl)),
      Nat.add_zero]
    unfold GatherDims.start
    refine (dif_pos (show (1 : Fin 3) ∈ [(1 : Fin 3)] from List.mem_singleton.mpr rfl)).trans ?_
    have hw := hix (place y)
    have hp : ∀ z : S8x2048x1.Idx, (z 0).val = (y 0).val → (z 1).val = (y 1).val → place z = place y := fun z h0 h1 =>
      funext fun b => match b with | ⟨0, _⟩ => Fin.ext h0 | ⟨1, _⟩ => Fin.ext h1
    have hn : (ix (place y)).toInt = ((ix (place y)).toNat : ℤ) := by
      rw [BitVec.toInt_eq_toNat_cond]
      omega
    have hz : ∀ z : S8x2048x1.Idx, (z 0).val = (y 0).val → (z 1).val = (y 1).val → wrapped ix z = ix (place y) := fun z h0 h1 =>
      (wrapped_at ix hix z).trans (congrArg ix (hp z h0 h1))
    refine (congrArg (fun w : BitVec 32 => min w.toInt.toNat 15) (hz (GatherDims.siIdx _ y _) ?_ ?_)).trans ?_
    · rfl
    · rfl
    show min (ix (place y)).toInt.toNat 15 = (ix (place y)).toNat
    rw [hn, Int.toNat_natCast]
    exact Nat.min_eq_left (by omega)
  | ⟨2, _⟩ =>
    rw [GatherDims.batchCoord_eq_zero _ _ _ (show (2 : Fin 3) ∉ [(0 : Fin 3)] by decide)]
    have hs : gather_S8x16x1_S8x2048x1_S8x2048x1_2_1_0_0_1_2_111.start y (wrapped ix) (2 : Fin 3) = 0 :=
      dif_neg (show (2 : Fin 3) ∉ [(1 : Fin 3)] by decide)
    exact (congrArg (· + 0 + (y 2).val) hs).trans ((Nat.zero_add _).trans hy2)

/-- So the reference keeps all of them. -/
theorem kept_at {α : Type} (g : S8x16x1.Idx → α) (fill : S8x2048x1.Idx → α) (y : S8x2048x1.Idx) :
    kept ix g fill y = g (ix3 (n0 := 8) (n1 := 16) (n2 := 1) (batch y) ⟨(ix (place y)).toNat, hix _⟩ 0) := by
  have h1 : broadcastInDim S8x2048x1 ![0, 1] bcast_S8x2048_S8x2048x1_0_1
      (Host.reduce IntOp.andi (inside ix) (constantI S_ 1 1#1) reducesTo_S8x2048x1_S8x2048_d2 h_S_) y = 1#1 :=
    Host.reduce_andi_one _ _ _ _ _ rfl (inside_at ix hix)
  refine Eq.trans ?_ (found_at ix hix g y)
  show Scalar.select _ _ _ = _
  rw [h1]
  rfl

end Cert.Proof.Lookup

end
-- ==== Proof.Consts.lean ====
/-
  The one float constant whose value the proof needs: the reference's divisor, as the real its bits denote.
-/
module

public import Idealize.ShloMosaic.PureOps.Ideal

@[expose] public section

noncomputable section

namespace Cert.Proof.Consts

open Idealize.ShloMosaic

/-- The reference divides by the float nearest to nine tenths, which is this fraction. -/
theorem divisor : Ideal.ofBits .f32 0x3F666666#32 = ((7549747 / 8388608 : ℝ) : EReal) := by
  simp [Ideal.ofBits, Ideal.ieee, -EReal.coe_mul]; norm_num

end Cert.Proof.Consts

end
-- ==== Proof.Equation.lean ====
/-
  The two results are one: the kernel's result at a place is the data there times the product of the looked-up mask number
  and the inverse of the divisor, the reference's the data over the divisor times the same number, and on the extended reals
  these are equal.
-/
module

public import proofs.«01_k».proof.Proof.Run
public import proofs.«01_k».proof.Proof.Lookup
public import proofs.«01_k».proof.Proof.Consts

@[expose] public section

noncomputable section

namespace Cert.Proof.Equation

open Cert.KernelIdeal Cert.KernelIdeal.Gen
open Idealize.ShloMosaic
open Cert.Proof.Run

/-! ## The kernel's result at one place -/

section Kernel
variable {F : FTy → Type}
variable (m : (ℓ : Loc nD τ sig) → Buf (Elt F) ℓ) (hpre : PreOK m)

/-- The row of the data, and the number among the looked-up ones, that the place `y` of the result belongs to. -/
abbrev rowOf (y : S8x2048x512.Idx) : ℕ := (y 0).val * 2048 + (y 1).val

/-- There are 16384 such rows. -/
theorem rowOf_lt (y : S8x2048x512.Idx) : rowOf y < 16384 := by
  have h0 : (y 0).val < 8 := (y 0).isLt
  have h1 : (y 1).val < 2048 := (y 1).isLt
  show (y 0).val * 2048 + (y 1).val < 16384
  omega

/-- The place in the index array that the place `y` of the result belongs to. -/
abbrev slot (y : S8x2048x512.Idx) : S8x2048.Idx := ValueIdx.ix2 (n0 := 8) (n1 := 2048) ⟨(y 0).val, (y 0).isLt⟩ ⟨(y 1).val, (y 1).isLt⟩

/-- The index that the place `y` of the result is computed with. -/
abbrev indexOf (d : Dev nD) (y : S8x2048x512.Idx) : BitVec 32 := (m (iLoc d) : S8x2048.Idx → BitVec 32) (slot y)

/-- The mask's number for the place `y` of the result. -/
abbrev numberOf (d : Dev nD) (y : S8x2048x512.Idx) : F .f32 :=
  (m (gLoc d) : S8x16x1.Idx → F .f32) (ValueIdx.ix3 (n0 := 8) (n1 := 16) (n2 := 1) ⟨(y 0).val, (y 0).isLt⟩ ⟨(indexOf m d y).toNat, hpre d (slot y)⟩ 0)

/-- An entry of the table is the mask's number of that batch and mask row. -/
theorem table_at (d : Dev nD) (b : Fin 8) (k : Fin 16) :
    table m d (tabIx (16 * b.val + k.val)) = (m (gLoc d) : S8x16x1.Idx → F .f32) (ValueIdx.ix3 (n0 := 8) (n1 := 16) (n2 := 1) b k 0) := by
  refine shapeCast_apply (s := S8x16x1) _ _ _ _ ?_
  rw [Shape.rowMajor_val_three, Shape.rowMajor_val_one]
  have hb := b.isLt
  have hk := k.isLt
  show (b.val * 16 + k.val) * 1 + 0 = (16 * b.val + k.val) % 128
  omega

/-- The looked-up number of row `rowOf y` is the mask's number for the place `y`. -/
theorem gathered_at (d : Dev nD) (y : S8x2048x512.Idx) :
    gathered (table m d) (m (iLoc d)) (ValueIdx.ix1 (n := 16384) ⟨rowOf y, rowOf_lt y⟩) = numberOf m hpre d y := by
  have h0 : (y 0).val < 8 := (y 0).isLt
  have h1 : (y 1).val < 2048 := (y 1).isLt
  have hd : ((y 0).val * 2048 + (y 1).val) / 2048 = (y 0).val := by omega
  have hr : ((y 0).val * 2048 + (y 1).val) % 2048 = (y 1).val := by omega
  have hi : idxIx (rowOf y) (rowOf_lt y) = slot y := funext fun a => match a with
    | ⟨0, _⟩ => Fin.ext hd
    | ⟨1, _⟩ => Fin.ext hr
  show table m d (tabIx (16 * (rowOf y / 2048) + ((m (iLoc d) : S8x2048.Idx → BitVec 32) (idxIx (rowOf y) (rowOf_lt y))).toNat)) = _
  rw [hi, show rowOf y / 2048 = (y 0).val from hd]
  exact table_at m d ⟨(y 0).val, h0⟩ ⟨(indexOf m d y).toNat, hpre d (slot y)⟩

variable [FloatOps F] [Named F]

/-- The kernel's result at the place `y`. -/
theorem output_at (d : Dev nD) (y : S8x2048x512.Idx) :
    output m d y = FloatOps.mulf ((m (xLoc d) : S8x2048x512.Idx → F .f32) y) (FloatOps.mulf (numberOf m hpre d y) keepInv) := by
  have h2 : (y 2).val < 512 := (y 2).isLt
  have hr := rowOf_lt y
  have hrow : (S16384x512.rowMajor (ValueIdx.ix2 (n0 := 16384) (n1 := 512) ⟨rowOf y, rowOf_lt y⟩ ⟨(y 2).val, h2⟩)).val = (S8x2048x512.rowMajor y).val := by
    rw [Shape.rowMajor_val_two, Shape.rowMajor_val_three]
    rfl
  refine (shapeCast_apply _ _ y (ValueIdx.ix2 (n0 := 16384) (n1 := 512) ⟨rowOf y, rowOf_lt y⟩ ⟨(y 2).val, h2⟩) hrow).trans ?_
  refine congrArg₂ FloatOps.mulf (shapeCast_apply _ _ _ y hrow.symm) (congrArg (fun v => FloatOps.mulf v keepInv) ?_)
  refine (shapeCast_apply _ _ _ (ValueIdx.ix1 (n := 16384) ⟨rowOf y, rowOf_lt y⟩) ?_).trans (gathered_at m hpre d y)
  rw [Shape.rowMajor_val_one, Shape.rowMajor_val_two]
  show rowOf y = rowOf y / 128 * 128 + rowOf y % 128
  omega

end Kernel

/-! ## The reference's result at one place -/

/-- The reference's result, of the data, the indices and the mask. -/
abbrev reference (x : FVec Ideal S8x2048x512 .f32) (ix : IVec S8x2048 32) (g : FVec Ideal S8x16x1 .f32) : FVec Ideal S8x2048x512 .f32 :=
  mulf (Host.divf x (broadcastInDim S8x2048x512 ![] Cert.ReferenceIdeal.Gen.bcast_S_S8x2048x512 (constant Cert.ReferenceIdeal.S_ .f32 0x3F666666#32)))
    (broadcastInDim S8x2048x512 ![0, 1, 2] Cert.ReferenceIdeal.Gen.bcast_S8x2048x1_S8x2048x512_0_1_2
      (Lookup.kept ix g (broadcastInDim Cert.ReferenceIdeal.S8x2048x1 ![] Cert.ReferenceIdeal.Gen.bcast_S_S8x2048x1
        (constant Cert.ReferenceIdeal.S_ .f32 0x7FC00000#32))))

/-- The named constant is the inverse of the reference's divisor. -/
theorem keepInv_eq : keepInv (F := Ideal) = ((8388608 / 7549747 : ℝ) : EReal) :=
  IdealRules.named_const.ideal_named_scalar _ _ _ _ rfl

/-- Dividing by the divisor first or multiplying by its inverse last is the same. -/
theorem scale_eq (x g : Ideal .f32) :
    FloatOps.mulf (FloatOps.hostDivf x (FloatOps.ofBits (F := Ideal) .f32 0x3F666666#32)) g
      = FloatOps.mulf x (FloatOps.mulf g (keepInv (F := Ideal))) := by
  rw [keepInv_eq]
  show Ideal.div x (Ideal.ofBits .f32 0x3F666666#32) * g = (x : EReal) * ((g : EReal) * ((8388608 / 7549747 : ℝ) : EReal))
  rw [Consts.divisor, Ideal.div_coe (by norm_num), show (1 / (7549747 / 8388608) : ℝ) = 8388608 / 7549747 by norm_num, mul_assoc,
    mul_comm g]

/-- From indices that name mask rows the reference computes what the kernel does. -/
theorem reference_eq (m : (ℓ : Loc nD τ sig) → Buf (Elt Ideal) ℓ) (hpre : PreOK m) (d : Dev nD) :
    reference (m (xLoc d)) (m (iLoc d)) (m (gLoc d)) = output m d := by
  funext y
  refine Eq.trans ?_ (output_at m hpre d y).symm
  have hcol : broadcastInDim S8x2048x512 ![0, 1, 2] Cert.ReferenceIdeal.Gen.bcast_S8x2048x1_S8x2048x512_0_1_2
      (Lookup.kept (α := Ideal .f32) (m (iLoc d)) (m (gLoc d)) (broadcastInDim Cert.ReferenceIdeal.S8x2048x1 ![] Cert.ReferenceIdeal.Gen.bcast_S_S8x2048x1
        (constant Cert.ReferenceIdeal.S_ .f32 0x7FC00000#32))) y = numberOf m hpre d y :=
    (broadcastInDim_apply _ _ _ y (ValueIdx.ix3 (n0 := 8) (n1 := 2048) (n2 := 1) ⟨(y 0).val, (y 0).isLt⟩ ⟨(y 1).val, (y 1).isLt⟩ 0)
      (fun a => match a with | ⟨0, _⟩ => rfl | ⟨1, _⟩ => rfl | ⟨2, _⟩ => rfl)).trans
      (Lookup.kept_at (m (iLoc d)) (hpre d) (m (gLoc d)) _ _)
  exact (congrArg (FloatOps.mulf (F := Ideal) (φ := .f32) _) hcol).trans (scale_eq _ _)

end Cert.Proof.Equation

end
-- ==== Proof.lean ====
/-
  The proof of `Cert.Claim`. The program's run is proved once, over any float values, in Proof/Run.lean, from the vector
  subcores' look-up (Proof/Tile.lean) and the TensorCore's scaling (Proof/Scale.lean, Proof/Region.lean). Proof/Words.lean
  carries it to the kernel as written, Proof/Equation.lean proves its result to be the reference's, and here the claims are
  put together.
-/
module

public import proofs.«01_k».proof.Defs
public import proofs.«01_k».proof.Proof.Words
public import proofs.«01_k».proof.Proof.Equation
public import proofs.«01_k».proof.Proof.Gen.ReferenceIdeal.Run
public import proofs.«01_k».proof.Proof.Gen.Pre_in_range
public import Idealize.ShloMosaic.Lib.Quiescent

@[expose] public section

noncomputable section

namespace Cert.Proof

open Idealize.ShloMosaic Idealize.SL.Sem

/-- The precondition over the extended reals makes every index name a mask row. -/
theorem indices_ok (m : (ℓ : Loc Cert.KernelIdeal.nD Cert.KernelIdeal.τ Cert.KernelIdeal.sig) → Buf (Elt Ideal) ℓ)
    (hpre : Cert.Pre_KernelIdeal m) : Run.PreOK m := fun d j => Range.fn_range (F := Ideal) _ _ _ (hpre d) j

/-- The idealized kernel runs to its end without a fault, leaves its arguments as they were and every semaphore at zero. -/
theorem frame_kernelIdeal : Cert.quiescent_KernelIdeal := fun m ρ hpre =>
  (θ_run _ _ _).mono (fun _ h => ⟨fun c => (h.1 c).2, h.2⟩) (Run.run_main (F := Ideal) m ρ (indices_ok m hpre))

/-- The reference runs to its end without a fault and leaves its arguments as they were; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that satisfy the precondition. -/
theorem frame_referenceIdeal_in_range : Cert.quiescent_ReferenceIdeal_pre_in_range := fun m ρ _ =>
  frame_referenceIdeal m ρ trivial

/-- The constant that was given a name is, over the extended reals, the value named. -/
theorem preserves : Cert.preserves_Kernel_KernelIdeal :=
  IdealRules.named_const.statement Cert.KernelIdeal.κ "inv_keep" .f32 0x3F8E38E4#32 ((8388608 / 7549747 : ℝ) : EReal) rfl

/-- From arguments that agree, the idealized kernel and the reference end with equal results over the extended reals. -/
theorem algebraic : Cert.algebraic_KernelIdeal_ReferenceIdeal := by
  intro m ρ m' ρ' hpre hagree
  refine ⟨fun c => Run.output m c, (θ_run _ _ _).mono (fun _ h => h.1) (Run.run_main (F := Ideal) m ρ (indices_ok m hpre)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Equation.reference_eq m (indices_ok m hpre) c

/-- Everything the certificate claims. -/
theorem claim : Cert.Claim :=
  ⟨Cert.Kernel.Gen.facts, Cert.KernelIdeal.Gen.facts, Cert.ReferenceIdeal.Gen.facts, Cert.Pre_in_range.Gen.facts,
    Words.frame, frame_kernelIdeal, frame_referenceIdeal, frame_referenceIdeal_in_range, preserves, algebraic⟩

end Cert.Proof

end
